-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x5120 : Shape := ⟨3, ![4, 8192, 5120]⟩
abbrev S4x8192 : Shape := ⟨2, ![4, 8192]⟩
abbrev S5120x2560 : Shape := ⟨2, ![5120, 2560]⟩
abbrev S2560 : Shape := ⟨1, ![2560]⟩
abbrev S1x2560 : Shape := ⟨2, ![1, 2560]⟩
abbrev S4x8192x2560 : Shape := ⟨3, ![4, 8192, 2560]⟩
abbrev S20x4x8192 : Shape := ⟨3, ![20, 4, 8192]⟩
abbrev S4x128x5120 : Shape := ⟨3, ![4, 128, 5120]⟩
abbrev S4x128 : Shape := ⟨2, ![4, 128]⟩
abbrev S4x128x2560 : Shape := ⟨3, ![4, 128, 2560]⟩
abbrev S20x4x128 : Shape := ⟨3, ![20, 4, 128]⟩
abbrev S512x128 : Shape := ⟨2, ![512, 128]⟩
abbrev S1x128 : Shape := ⟨2, ![1, 128]⟩
abbrev S128x128 : Shape := ⟨2, ![128, 128]⟩
abbrev S512x5120 : Shape := ⟨2, ![512, 5120]⟩
abbrev S5120x512 : Shape := ⟨2, ![5120, 512]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S4x128x128 : Shape := ⟨3, ![4, 128, 128]⟩
abbrev S1x1x128 : Shape := ⟨3, ![1, 1, 128]⟩
abbrev S4x8192x20 : Shape := ⟨3, ![4, 8192, 20]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x5120, .fp8e4m3⟩
  | .hbm, ⟨1, _⟩ => ⟨S4x8192, .f32⟩
  | .hbm, ⟨2, _⟩ => ⟨S5120x2560, .fp8e4m3⟩
  | .hbm, ⟨3, _⟩ => ⟨S2560, .f32⟩
  | .hbm, ⟨4, _⟩ => ⟨S1x2560, .f32⟩
  | .hbm, ⟨5, _⟩ => ⟨S4x8192x2560, .fp8e4m3⟩
  | .hbm, ⟨6, _⟩ => ⟨S20x4x8192, .f32⟩
  | .hbm, ⟨7, _⟩ => ⟨S4x8192x20, .f32⟩
  | .local _ .vmem, ⟨0, _⟩ => ⟨S4x128x5120, .fp8e4m3⟩
  | .local _ .vmem, ⟨1, _⟩ => ⟨S4x128x5120, .fp8e4m3⟩
  | .local _ .vmem, ⟨2, _⟩ => ⟨S4x128, .f32⟩
  | .local _ .vmem, ⟨3, _⟩ => ⟨S4x128, .f32⟩
  | .local _ .vmem, ⟨4, _⟩ => ⟨S5120x2560, .fp8e4m3⟩
  | .local _ .vmem, ⟨5, _⟩ => ⟨S1x2560, .f32⟩
  | .local _ .vmem, ⟨6, _⟩ => ⟨S4x128x2560, .fp8e4m3⟩
  | .local _ .vmem, ⟨7, _⟩ => ⟨S4x128x2560, .fp8e4m3⟩
  | .local _ .vmem, ⟨8, _⟩ => ⟨S20x4x128, .f32⟩
  | .local _ .vmem, ⟨9, _⟩ => ⟨S20x4x128, .f32⟩
  | .local _ .vmem, ⟨10, _⟩ => ⟨S512x128, .f32⟩
  | _, _ => ⟨S4x8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x128x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x5120 : Shape := ⟨3, ![4, 8192, 5120]⟩
abbrev S4x8192 : Shape := ⟨2, ![4, 8192]⟩
abbrev S5120x2560 : Shape := ⟨2, ![5120, 2560]⟩
abbrev S2560 : Shape := ⟨1, ![2560]⟩
abbrev S4x8192x2560 : Shape := ⟨3, ![4, 8192, 2560]⟩
abbrev S4x8192x20 : Shape := ⟨3, ![4, 8192, 20]⟩
abbrev S4x8192x1 : Shape := ⟨3, ![4, 8192, 1]⟩
abbrev S1x1x2560 : Shape := ⟨3, ![1, 1, 2560]⟩
abbrev S4x8192x20x128 : Shape := ⟨4, ![4, 8192, 20, 128]⟩
abbrev S4x8192x20x1 : Shape := ⟨4, ![4, 8192, 20, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x5120, .fp8e4m3⟩
  | .hbm, ⟨1, _⟩ => ⟨S4x8192, .f32⟩
  | .hbm, ⟨2, _⟩ => ⟨S5120x2560, .fp8e4m3⟩
  | .hbm, ⟨3, _⟩ => ⟨S2560, .f32⟩
  | .hbm, ⟨4, _⟩ => ⟨S4x8192x2560, .fp8e4m3⟩
  | .hbm, ⟨5, _⟩ => ⟨S4x8192x20, .f32⟩
  | .local _ .vmem, ⟨0, _⟩ => ⟨S4x8192x5120, .fp8e4m3⟩
  | .local _ .vmem, ⟨1, _⟩ => ⟨S4x8192, .f32⟩
  | .local _ .vmem, ⟨2, _⟩ => ⟨S5120x2560, .fp8e4m3⟩
  | .local _ .vmem, ⟨3, _⟩ => ⟨S2560, .f32⟩
  | .local _ .vmem, ⟨4, _⟩ => ⟨S4x8192x2560, .fp8e4m3⟩
  | .local _ .vmem, ⟨5, _⟩ => ⟨S4x8192x20, .f32⟩
  | _, _ => ⟨S4x8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x8192x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Table.lean ====
/- The kernel's power-of-two scale of a group, on one value: the largest power of two out of a table of exponent
   fields that is at most `t`, and the words formed from its field. What is decided over the 256 places of the table. -/
module

public import Idealize.ShloMosaic.Lib.Pointwise

@[expose] public section

set_option maxRecDepth 16384

noncomputable section

namespace Cert.Scale

open Idealize.ShloMosaic

/-! ## The kernel's side -/

/-- The float word whose exponent field is `k`: `2 ^ (k - 127)` for a normal `k`. -/
def word (k : Fin 256) : BitVec 32 := IntOp.shli .vector (BitVec.ofNat 32 k.val) 23#32

/-- The power of two at table place `k`. -/
def pow (k : Fin 256) : EReal := Ideal.ofBits .f32 (word k)

/-- The exponent field that the table offers at place `k`: the overflow field from place 253 on. -/
def field (k : Fin 256) : BitVec 32 :=
  Scalar.select (IntOp.cmpi .slt (BitVec.ofNat 32 k.val) 253#32) (word k) 2139095040#32

/-- The largest offered field whose power of two is at most `t`; 0 if none is. -/
def maxField (t : EReal) : BitVec 32 :=
  Finset.univ.fold IntOp.maxsi 2147483648#32 fun k : Fin 256 => Scalar.select (Ideal.cmp .ole (pow k) t) (field k) 0#32

/-- 0 and the overflow field become the field of one half. -/
def fixField (e : BitVec 32) : BitVec 32 :=
  Scalar.select (IntOp.ori (IntOp.cmpi .eq e 0#32) (IntOp.cmpi .eq e 2139095040#32)) 1056964608#32 e

/-- The kernel's scale and its inverse. -/
def kScale (t : EReal) : EReal := Ideal.ofBits .f32 (IntOp.addi (fixField (maxField t)) 8388608#32)
def kInv (t : EReal) : EReal := Ideal.ofBits .f32 (IntOp.subi 2122317824#32 (fixField (maxField t)))

/-- What the table's maximum is when exactly the places up to `K` are at most `t`. -/
theorem fold_upto : ∀ K : Fin 256,
    (Finset.univ.fold IntOp.maxsi 2147483648#32 fun k : Fin 256 => if k ≤ K then field k else 0#32) = field K := by
  decide +kernel

theorem fold_none :
    (Finset.univ.fold IntOp.maxsi 2147483648#32 fun _ : Fin 256 => 0#32) = 0#32 := by
  decide +kernel

/-- The bits of `word k`: sign 0, fraction 0, exponent field `k`. -/
theorem word_bits : ∀ k : Fin 256, (word k).extractLsb' 31 1 = 0#1 ∧ ((word k).extractLsb' 23 8).toNat = k.val
    ∧ ((word k).extractLsb' 0 23).toNat = 0 := by
  decide +kernel

/-! The words the kernel forms from the field, decided over the table. -/

theorem word_scale : ∀ K : Fin 256, ∀ h1 : 1 ≤ K.val, ∀ h2 : K.val ≤ 252,
    IntOp.addi (fixField (field K)) 8388608#32 = word ⟨K.val + 1, by omega⟩
    ∧ IntOp.subi 2122317824#32 (fixField (field K)) = word ⟨253 - K.val, by omega⟩ := by
  decide +kernel

theorem word_unit : ∀ K : Fin 256, K.val = 0 ∨ 253 ≤ K.val →
    IntOp.addi (fixField (field K)) 8388608#32 = word 127
    ∧ IntOp.subi 2122317824#32 (fixField (field K)) = word 127 := by
  decide +kernel

theorem word_unit_none : IntOp.addi (fixField 0#32) 8388608#32 = word 127
    ∧ IntOp.subi 2122317824#32 (fixField 0#32) = word 127 := by
  decide +kernel

end Cert.Scale

end
-- ==== Proof.Scale.lean ====
/- The power-of-two scale of a group, as the two programs compute it from the group's maximum: the kernel by the
   largest power of two (out of a table of exponent fields) that is at most `t`, the reference by the floor of a
   logarithm. Both are read here on one extended real; `scale_and_inverse` says they agree on every one. -/
module

public import proofs.«01_k».proof.Proof.Table

@[expose] public section

set_option maxRecDepth 16384

noncomputable section

namespace Cert.Scale

open Idealize.ShloMosaic

/-! ## The kernel's side -/

theorem pow_zero : pow 0 = 0 := by
  unfold pow Ideal.ofBits Ideal.ieee
  obtain ⟨h1, h2, h3⟩ := word_bits 0
  simp only [h1, h2, h3]
  simp

theorem pow_top : pow 255 = ⊤ := by
  unfold pow Ideal.ofBits Ideal.ieee
  obtain ⟨h1, h2, h3⟩ := word_bits 255
  simp only [h1, h2, h3]
  simp

theorem pow_normal (k : Fin 256) (h0 : 1 ≤ k.val) (h1 : k.val ≤ 254) :
    pow k = (((2 : ℝ) ^ ((k.val : ℤ) - 127) : ℝ) : EReal) := by
  obtain ⟨e1, e2, e3⟩ := word_bits k
  unfold pow
  generalize word k = b at e1 e2 e3
  unfold Ideal.ofBits Ideal.ieee
  simp only [e1, e2, e3]
  rw [if_neg (by norm_num; omega), if_neg (by omega)]
  refine congrArg (fun r : ℝ => (r : EReal)) ?_
  rw [if_neg (by decide), one_mul, Nat.add_zero, Nat.cast_pow, Nat.cast_ofNat, ← zpow_natCast, ← zpow_add₀ (by norm_num)]
  refine congrArg (fun z : ℤ => (2 : ℝ) ^ z) ?_
  norm_num

theorem pow_strictMono : StrictMono pow := by
  intro a b hab
  have hlt : a.val < b.val := hab
  by_cases hb : b.val = 255
  · have : b = 255 := Fin.ext hb
    subst this
    rw [pow_top]
    by_cases ha : a.val = 0
    · have : a = 0 := Fin.ext ha
      subst this
      rw [pow_zero]; exact EReal.zero_lt_top
    · rw [pow_normal a (by omega) (by omega)]; exact EReal.coe_lt_top _
  · rw [pow_normal b (by omega) (by omega)]
    by_cases ha : a.val = 0
    · have : a = 0 := Fin.ext ha
      subst this
      rw [pow_zero]
      exact_mod_cast (zpow_pos (by norm_num : (0 : ℝ) < 2) _)
    · rw [pow_normal a (by omega) (by omega)]
      exact EReal.coe_lt_coe_iff.mpr (zpow_lt_zpow_right₀ (by norm_num : (1 : ℝ) < 2) (by omega))

/-- Either no table place is at most `t`, or exactly those up to some `K` are. -/
theorem cut (t : EReal) : (∀ k, ¬ pow k ≤ t) ∨ ∃ K, ∀ k, pow k ≤ t ↔ k ≤ K := by
  by_cases h : ∃ k, pow k ≤ t
  · right
    obtain ⟨k₀, hk₀⟩ := h
    have hne : (Finset.univ.filter fun k => pow k ≤ t).Nonempty := ⟨k₀, by simp [hk₀]⟩
    refine ⟨(Finset.univ.filter fun k => pow k ≤ t).max' hne, fun k => ⟨fun hk => Finset.le_max' _ _ (by simp [hk]), fun hk => ?_⟩⟩
    have hm := Finset.max'_mem _ hne
    simp only [Finset.mem_filter, Finset.mem_univ, true_and] at hm
    exact (pow_strictMono.monotone hk).trans hm
  · left; push Not at h; intro k hk; exact absurd hk (not_le.mpr (h k))

theorem select_cmp_ole (x t : EReal) (a b : BitVec 32) :
    Scalar.select (Ideal.cmp .ole x t) a b = if x ≤ t then a else b := by
  unfold Scalar.select Ideal.cmp
  by_cases h : x ≤ t <;> simp [h]

theorem maxField_none {t : EReal} (h : ∀ k, ¬ pow k ≤ t) : maxField t = 0#32 := by
  unfold maxField
  simp only [select_cmp_ole, h, if_false]
  exact fold_none

theorem maxField_cut {t : EReal} {K : Fin 256} (h : ∀ k, pow k ≤ t ↔ k ≤ K) : maxField t = field K := by
  unfold maxField
  simp only [select_cmp_ole, h]
  exact fold_upto K

theorem negInf : Ideal.ofBits .f32 4286578688#32 = (⊥ : EReal) := by
  have h : (4286578688#32 : BitVec 32).extractLsb' 31 1 = 1#1 ∧ ((4286578688#32 : BitVec 32).extractLsb' 23 8).toNat = 255
      ∧ ((4286578688#32 : BitVec 32).extractLsb' 0 23).toNat = 0 := by decide +kernel
  obtain ⟨h1, h2, h3⟩ := h
  generalize (4286578688#32 : BitVec 32) = b at h1 h2 h3 ⊢
  unfold Ideal.ofBits Ideal.ieee
  simp only [h1, h2, h3]
  simp

theorem pow_one : pow 127 = 1 := by
  rw [pow_normal 127 (by decide) (by decide)]
  have : ((127 : Fin 256).val : ℤ) - 127 = 0 := by decide
  rw [this]; simp

/-! ## The reference's side -/

/-- The exponent: one more than the floor of log2 of `t` where `t` is normal (below 2^126), else 0; and 0 for a zero maximum. -/
def rExp (a t : EReal) : EReal :=
  Scalar.select (Ideal.cmp .oeq a 0) (0 : EReal)
    (Scalar.select (IntOp.andi (Ideal.cmp .oge t (Ideal.ofBits .f32 0x00800000#32)) (Ideal.cmp .olt t (Ideal.ofBits .f32 0x7E800000#32)))
      (Ideal.liftRound Int.floor (Ideal.div (Ideal.log t) (Ideal.log (Ideal.ofBits .f32 0x40000000#32))) + 1) (0 : EReal))

theorem lo_eq : Ideal.ofBits .f32 0x00800000#32 = pow 1 := congrArg (Ideal.ofBits .f32) (by decide +kernel)
theorem hi_eq : Ideal.ofBits .f32 0x7E800000#32 = pow 253 := congrArg (Ideal.ofBits .f32) (by decide +kernel)
theorem two_eq : Ideal.ofBits .f32 0x40000000#32 = ((2 : ℝ) : EReal) := by
  rw [show Ideal.ofBits .f32 0x40000000#32 = pow 128 from congrArg (Ideal.ofBits .f32) (by decide +kernel),
    pow_normal 128 (by decide) (by decide)]
  congr 1
  have : ((128 : Fin 256).val : ℤ) - 127 = 1 := by decide
  rw [this]; simp

theorem range_eq (t : EReal) (x y : EReal) :
    Scalar.select (IntOp.andi (Ideal.cmp .oge t (Ideal.ofBits .f32 0x00800000#32)) (Ideal.cmp .olt t (Ideal.ofBits .f32 0x7E800000#32))) x y
      = if pow 1 ≤ t ∧ t < pow 253 then x else y := by
  rw [lo_eq, hi_eq]
  unfold Scalar.select Ideal.cmp IntOp.andi
  by_cases h : pow 1 ≤ t <;> by_cases h' : t < pow 253 <;> simp [h, h']

theorem oeq_eq (a : EReal) (x y : EReal) : Scalar.select (Ideal.cmp .oeq a 0) x y = if a = 0 then x else y := by
  unfold Scalar.select Ideal.cmp
  by_cases h : a = 0 <;> simp [h]

/-- Outside the range the reference's exponent is 0. -/
theorem rExp_out {a t : EReal} (h : ¬ (pow 1 ≤ t ∧ t < pow 253)) : rExp a t = 0 := by
  unfold rExp
  rw [range_eq, oeq_eq, if_neg h, ite_self]

/-- In the binade of table place `K` it is `K - 126`. -/
theorem rExp_in {a t : EReal} (ha : a = 0 → t = 0) (K : Fin 256) (h1 : 1 ≤ K.val) (h2 : K.val ≤ 252)
    (hl : pow K ≤ t) (hu : t < pow ⟨K.val + 1, by omega⟩) :
    rExp a t = (((K.val : ℤ) - 126 : ℤ) : ℝ) := by
  have hpos : 0 < t := lt_of_lt_of_le (by rw [← pow_zero]; exact pow_strictMono (show (0 : Fin 256) < K from h1)) hl
  unfold rExp
  rw [range_eq, oeq_eq, if_neg (fun h => absurd (ha h) (ne_of_gt hpos)),
    if_pos ⟨(pow_strictMono.monotone (show (1 : Fin 256) ≤ K from h1)).trans hl,
      lt_of_lt_of_le hu (pow_strictMono.monotone (by show K.val + 1 ≤ 253; omega))⟩, two_eq]
  rw [pow_normal K h1 (by omega)] at hl
  rw [pow_normal _ (by show 1 ≤ K.val + 1; omega) (by show K.val + 1 ≤ 254; omega)] at hu
  induction t with
  | bot => exact absurd hpos (by simp)
  | top => exact absurd hu (by simp)
  | coe r =>
    have hr : 0 < r := by exact_mod_cast hpos
    have hl' : (2 : ℝ) ^ ((K.val : ℤ) - 127) ≤ r := by exact_mod_cast hl
    have hu' : r < (2 : ℝ) ^ (((K.val + 1 : ℕ) : ℤ) - 127) := by exact_mod_cast hu
    have hlog : Ideal.log (r : EReal) = (Real.log r : EReal) := by
      show (if r ≤ 0 then ⊥ else (Real.log r : EReal)) = _
      rw [if_neg (not_le.mpr hr)]
    have hlog2 : Ideal.log ((2 : ℝ) : EReal) = (Real.log 2 : EReal) := by
      show (if (2 : ℝ) ≤ 0 then ⊥ else (Real.log 2 : EReal)) = _
      rw [if_neg (by norm_num)]
    have h2pos : 0 < Real.log 2 := Real.log_pos (by norm_num)
    rw [hlog, hlog2]
    unfold Ideal.div
    rw [if_neg (by exact_mod_cast h2pos.ne'), ← EReal.coe_inv, ← EReal.coe_mul]
    show ((⌊Real.log r * (Real.log 2)⁻¹⌋ : ℝ) : EReal) + 1 = _
    have hfl : ⌊Real.log r * (Real.log 2)⁻¹⌋ = (K.val : ℤ) - 127 := by
      rw [Int.floor_eq_iff, ← div_eq_mul_inv]
      constructor
      · rw [le_div_iff₀ h2pos, ← Real.log_zpow]
        exact Real.log_le_log (by positivity) hl'
      · rw [div_lt_iff₀ h2pos]
        have := Real.log_lt_log hr hu'
        rw [Real.log_zpow] at this
        refine this.trans_le (le_of_eq ?_)
        push_cast; ring
    rw [hfl, ← EReal.coe_one, ← EReal.coe_add]
    congr 1
    push_cast; ring

theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

theorem exp2_zero : Ideal.exp2 0 = 1 := by
  have := exp2_int 0
  simpa using this

/-- The two scales agree, and so do their inverses, at every extended real. -/
theorem scale_and_inverse (a t : EReal) (ha : a = 0 → t = 0) :
    kScale t = Ideal.exp2 (rExp a t) ∧ kInv t = Ideal.exp2 (0 - rExp a t) := by
  have unit {e : BitVec 32} (he : maxField t = e)
      (hw : IntOp.addi (fixField e) 8388608#32 = word 127 ∧ IntOp.subi 2122317824#32 (fixField e) = word 127)
      (hr : rExp a t = 0) : kScale t = Ideal.exp2 (rExp a t) ∧ kInv t = Ideal.exp2 (0 - rExp a t) := by
    unfold kScale kInv
    rw [he, hw.1, hw.2, hr, sub_zero, exp2_zero]
    exact ⟨pow_one, pow_one⟩
  rcases cut t with h | ⟨K, h⟩
  · exact unit (maxField_none h) word_unit_none (rExp_out fun hh => h 1 hh.1)
  · by_cases hK : K.val = 0 ∨ 253 ≤ K.val
    · refine unit (maxField_cut h) (word_unit K hK) (rExp_out fun hh => ?_)
      rcases hK with h0 | h253
      · have := (h 1).mp hh.1
        have : (1 : ℕ) ≤ K.val := this
        omega
      · exact absurd ((h 253).mpr (show (253 : ℕ) ≤ K.val from h253)) (not_le.mpr hh.2)
    · push Not at hK
      have h1 : 1 ≤ K.val := by omega
      have h2 : K.val ≤ 252 := by omega
      have hr := rExp_in ha K h1 h2 ((h K).mpr le_rfl) (lt_of_not_ge fun hc => by
        have : K.val + 1 ≤ K.val := (h ⟨K.val + 1, by omega⟩).mp hc
        omega)
      unfold kScale kInv
      rw [maxField_cut h, (word_scale K h1 h2).1, (word_scale K h1 h2).2, hr, exp2_int,
        show (0 : EReal) - (((K.val : ℤ) - 126 : ℤ) : ℝ) = (((126 - (K.val : ℤ) : ℤ) : ℝ) : EReal) by
          rw [zero_sub, ← EReal.coe_neg]; congr 1; push_cast; ring, exp2_int]
      refine ⟨(pow_normal ⟨K.val + 1, by omega⟩ (by show 1 ≤ K.val + 1; omega) (by show K.val + 1 ≤ 254; omega)).trans ?_,
        (pow_normal ⟨253 - K.val, by omega⟩ (by show 1 ≤ 253 - K.val; omega) (by show 253 - K.val ≤ 254; omega)).trans ?_⟩
      · congr 2
        show (((K.val + 1 : ℕ) : ℤ)) - 127 = _
        push_cast; ring
      · congr 2
        show (((253 - K.val : ℕ) : ℤ)) - 127 = _
        omega

end Cert.Scale

end
-- ==== Proof.Group.lean ====
/- One group of 128 columns, as the kernel computes it from the rows' products: the squared rectified values, the
   field of the group's scale, the scale, its inverse, the codes, and the step that writes the scale into its column of
   the table. Each is stated once, over any operands, and read at an index. -/
module

public import proofs.«01_k».proof.Proof.Gen.KernelIdeal.Skeleton
public import proofs.«01_k».proof.Proof.Scale

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The squared rectified values of a group: products `a`, row scales `xsb`, column scales `ws`. -/
def gY (a xsb : FVec F S512x128 .f32) (ws : FVec F S1x128 .f32) : FVec F S512x128 .f32 :=
  mulf
    (maximumf (mulf a (mulf xsb (broadcastTo S512x128 (shapeCast S1x128 ws shapeCasts_S1x128_S1x128) broadcasts_S1x128_S512x128)))
      (broadcast S512x128 (Scalar.ofBits .f32 0x00000000#32)))
    (maximumf (mulf a (mulf xsb (broadcastTo S512x128 (shapeCast S1x128 ws shapeCasts_S1x128_S1x128) broadcasts_S1x128_S512x128)))
      (broadcast S512x128 (Scalar.ofBits .f32 0x00000000#32)))

/-- The quantiser's bound on each row: the row's maximum over 448. -/
def gT (y : FVec F S512x128 .f32) : FVec F S512x1 .f32 :=
  mulf (shapeCast S512x1 (multiReduction .maximumf [1] S512 y 0xFF800000#32 reduces_S512x128_S512 (.inl rfl) rfl) shapeCasts_S512_S512x1)
    (broadcast S512x1 (Scalar.ofBits .f32 0x3B124925#32))

/-- The largest offered field whose power is at most the bound. -/
def gMax (t : FVec F S512x1 .f32) : IVec S512x1 32 :=
  shapeCast S512x1
    (multiReductionI .maxsi [1] S512
      (select
        (cmpf .ole (bitcastToFloat .f32 (shli (iota .tc S512x256 32 [1] iota_S512x256_d1_w32) (broadcast S512x256 23#32)))
          (broadcastTo S512x256 t broadcasts_S512x1_S512x256))
        (select (cmpi .slt (iota .tc S512x256 32 [1] iota_S512x256_d1_w32) (broadcast S512x256 253#32))
          (shli (iota .tc S512x256 32 [1] iota_S512x256_d1_w32) (broadcast S512x256 23#32)) (broadcast S512x256 2139095040#32))
        (broadcast S512x256 0#32))
      2147483648#32 reduces_S512x256_S512 rfl)
    shapeCasts_S512_S512x1

/-- The field of the scale: that one, or the field of one half where there is none to use. -/
def gField (y : FVec F S512x128 .f32) : IVec S512x1 32 :=
  select (ori (cmpi .eq (gMax (gT y)) (broadcast S512x1 0#32)) (cmpi .eq (gMax (gT y)) (broadcast S512x1 2139095040#32)))
    (broadcast S512x1 1056964608#32) (gMax (gT y))

/-- The scale of each row, and its inverse. -/
def gScale (y : FVec F S512x128 .f32) : FVec F S512x1 .f32 :=
  bitcastToFloat .f32 (addi (gField y) (broadcast S512x1 8388608#32))
def gInv (y : FVec F S512x128 .f32) : FVec F S512x1 .f32 :=
  bitcastToFloat .f32 (subi (broadcast S512x1 2122317824#32) (gField y))

/-- The codes of the group. -/
def gCodes (y : FVec F S512x128 .f32) : FVec F S4x128x128 .fp8e4m3 :=
  shapeCast S4x128x128
    (truncf .fp8e4m3
      (minimumf (broadcast S512x128 (Scalar.ofBits .f32 0x43E00000#32))
        (maximumf (broadcast S512x128 (Scalar.ofBits .f32 0xC3E00000#32))
          (mulf y (broadcastTo S512x128 (gInv y) broadcasts_S512x1_S512x128))))
      bitsLt_fp8e4m3_f32)
    shapeCasts_S512x128_S4x128x128

/-- The table with the group's scale written into column `k`. -/
def gStep (k : BitVec 32) (prev : FVec F S512x128 .f32) (y : FVec F S512x128 .f32) : FVec F S512x128 .f32 :=
  select (cmpi .eq (iota .tc S512x128 32 [1] iota_S512x128_d1_w32) (broadcast S512x128 k))
    (broadcastTo S512x128 (shapeCast S512x1 (gScale y) shapeCasts_S512x1_S512x1) broadcasts_S512x1_S512x128) prev

/-! ## At an index -/

/-- The bound of row `r`. -/
def tRow (y : FVec Ideal S512x128 .f32) (r : Fin 512) : EReal :=
  (Finset.univ.fold max ⊥ fun l : Fin 128 => (y (ix2 r l) : EReal)) * Ideal.ofBits .f32 0x3B124925#32

theorem gY_at (a xsb : FVec Ideal S512x128 .f32) (ws : FVec Ideal S1x128 .f32) (r : Fin 512) (l : Fin 128) :
    gY a xsb ws (ix2 r l) = max (a (ix2 r l) * (xsb (ix2 r l) * ws (ix2 0 l))) 0 * max (a (ix2 r l) * (xsb (ix2 r l) * ws (ix2 0 l))) 0 := by
  pointwise [gY]

theorem gT_at (y : FVec Ideal S512x128 .f32) (r : Fin 512) : gT y (ix2 r 0) = tRow y r := by
  pointwise [gT]
  rw [Scale.negInf]; rfl

theorem gMax_at (t : FVec Ideal S512x1 .f32) (r : Fin 512) : gMax t (ix2 r 0) = Scale.maxField (t (ix2 r 0)) := by
  pointwise [gMax]
  unfold Scale.maxField
  simp only [Scale.select_cmp_ole]
  rfl

theorem gField_at (y : FVec Ideal S512x128 .f32) (r : Fin 512) : gField y (ix2 r 0) = Scale.fixField (Scale.maxField (tRow y r)) := by
  pointwise [gField, gMax_at, gT_at]
  rfl

theorem gScale_at (y : FVec Ideal S512x128 .f32) (r : Fin 512) : gScale y (ix2 r 0) = Scale.kScale (tRow y r) := by
  pointwise [gScale, gField_at]
  rfl

theorem gInv_at (y : FVec Ideal S512x128 .f32) (r : Fin 512) : gInv y (ix2 r 0) = Scale.kInv (tRow y r) := by
  pointwise [gInv, gField_at]
  rfl

theorem gCodes_at (y : FVec Ideal S512x128 .f32) (b : Fin 4) (s l : Fin 128) :
    gCodes y (ix3 b s l) = min (Ideal.ofBits .f32 0x43E00000#32) (max (Ideal.ofBits .f32 0xC3E00000#32)
      (y (ix2 ⟨b.val * 128 + s.val, by omega⟩ l) * Scale.kInv (tRow y ⟨b.val * 128 + s.val, by omega⟩))) := by
  pointwise [gCodes, gInv_at]

theorem gStep_at (k : BitVec 32) (prev y : FVec Ideal S512x128 .f32) (r : Fin 512) (l : Fin 128) :
    gStep k prev y (ix2 r l) = if BitVec.ofNat 32 l.val = k then Scale.kScale (tRow y r) else prev (ix2 r l) := by
  pointwise [gStep, gScale_at]
  unfold Scalar.select IntOp.cmpi
  by_cases h : BitVec.ofNat 32 l.val = k
  · simp [h]
  · rw [if_neg h, if_neg]
    rw [beq_eq_false_iff_ne.mpr h]
    exact (by decide : ¬BitVec.ofBool false = 1)

end Cert.KernelIdeal.Value

end
-- ==== Proof.Rows.lean ====
/- The values of a block: the squared rectified products `hAt` of the block's inputs, what one group of 128 columns of
   them determines, and that the kernel's operands of every group — a slice of one of the five products, the row scales
   spread over the lanes, a slice of the column scales — give exactly those values. -/
module

public import proofs.«01_k».proof.Proof.Group
public import proofs.«01_k».proof.Proof.Gen.KernelIdeal.Frame
public import Idealize.ShloMosaic.Lib.Pipeline.ValueKit
public import Idealize.ShloMosaic.Lib.WholeRead

@[expose] public section

set_option maxRecDepth 16384

noncomputable section

namespace Cert.KernelIdeal.Value

open Cert.KernelIdeal Cert.KernelIdeal.Gen Idealize.ShloMosaic Idealize.ShloMosaic.TcCoe Idealize.SL.Sem

section Spec

variable (x0 : FVec Ideal S4x128x5120 .fp8e4m3) (x1 : FVec Ideal S4x128 .f32) (x2 : FVec Ideal S5120x2560 .fp8e4m3)
  (x3 : FVec Ideal S1x2560 .f32)

/-- The scaled product at batch `b`, row `s`, column `n` of the block. -/
def pAt (b : Fin 4) (s : Fin 128) (n : Fin 2560) : EReal :=
  (∑ k : Fin 5120, (x0 (ix3 b s k) : EReal) * x2 (ix2 k n)) * (x1 (ix2 b s) * x3 (ix2 0 n))

/-- Its rectified square. -/
def hAt (b : Fin 4) (s : Fin 128) (n : Fin 2560) : EReal := max (pAt x0 x1 x2 x3 b s n) 0 * max (pAt x0 x1 x2 x3 b s n) 0

/-- The bound of group `g` of that row. -/
def tAt (b : Fin 4) (s : Fin 128) (g : Fin 20) : EReal :=
  (Finset.univ.fold max ⊥ fun l : Fin 128 => hAt x0 x1 x2 x3 b s ⟨128 * g.val + l.val, by omega⟩) * Ideal.ofBits .f32 0x3B124925#32

/-- The code at column `n`. -/
def codeAt (b : Fin 4) (s : Fin 128) (n : Fin 2560) : EReal :=
  min (Ideal.ofBits .f32 0x43E00000#32) (max (Ideal.ofBits .f32 0xC3E00000#32)
    (hAt x0 x1 x2 x3 b s n * Scale.kInv (tAt x0 x1 x2 x3 b s ⟨n.val / 128, by omega⟩)))

/-- The scale of group `g`. -/
def scaleAt (b : Fin 4) (s : Fin 128) (g : Fin 20) : EReal := Scale.kScale (tAt x0 x1 x2 x3 b s g)

/-- The values of group `g` over the block's 512 rows. -/
def yV (g : Fin 20) : FVec Ideal S512x128 .f32 := fun i =>
  hAt x0 x1 x2 x3 ⟨(i 0).val / 128, by have := (i 0).isLt; change (i 0).val < 512 at this; omega⟩
    ⟨(i 0).val % 128, Nat.mod_lt _ (by norm_num)⟩
    ⟨128 * g.val + (i 1).val, by have := (i 1).isLt; change (i 1).val < 128 at this; omega⟩

theorem tRow_yV (g : Fin 20) (b : Fin 4) (s : Fin 128) (r : Fin 512) (hr : r.val = b.val * 128 + s.val) :
    tRow (yV x0 x1 x2 x3 g) r = tAt x0 x1 x2 x3 b s g := by
  have hb : (⟨r.val / 128, by omega⟩ : Fin 4) = b := Fin.ext (by show r.val / 128 = b.val; omega)
  have hs : (⟨r.val % 128, by omega⟩ : Fin 128) = s := Fin.ext (by show r.val % 128 = s.val; omega)
  unfold tRow tAt
  refine congrArg (· * _) ?_
  refine congrArg (fun f => Finset.univ.fold max ⊥ f) (funext fun l => ?_)
  show hAt x0 x1 x2 x3 (⟨r.val / 128, _⟩ : Fin 4) (⟨r.val % 128, _⟩ : Fin 128) ⟨128 * g.val + l.val, _⟩ = _
  rw [hb, hs]

/-- The codes of a group are the block's codes at the group's columns. -/
theorem gCodes_yV (g : Fin 20) (b : Fin 4) (s l : Fin 128) :
    gCodes (yV x0 x1 x2 x3 g) (ix3 b s l) = codeAt x0 x1 x2 x3 b s ⟨128 * g.val + l.val, by omega⟩ := by
  rw [gCodes_at, tRow_yV x0 x1 x2 x3 g b s _ rfl]
  have hb : (⟨(b.val * 128 + s.val) / 128, by omega⟩ : Fin 4) = b := Fin.ext (by show (b.val * 128 + s.val) / 128 = b.val; omega)
  have hs : (⟨(b.val * 128 + s.val) % 128, by omega⟩ : Fin 128) = s := Fin.ext (by show (b.val * 128 + s.val) % 128 = s.val; omega)
  have hg : (⟨(128 * g.val + l.val) / 128, by omega⟩ : Fin 20) = g := Fin.ext (by show (128 * g.val + l.val) / 128 = g.val; omega)
  unfold codeAt
  rw [hg]
  show min _ (max _ (hAt x0 x1 x2 x3 (⟨(b.val * 128 + s.val) / 128, _⟩ : Fin 4) (⟨(b.val * 128 + s.val) % 128, _⟩ : Fin 128) ⟨128 * g.val + l.val, _⟩ * _)) = _
  rw [hb, hs]

/-- The table's columns below `n` hold the scales of their groups. -/
def TableTo (n : ℕ) (T : FVec Ideal S512x128 .f32) : Prop :=
  ∀ (r : Fin 512) (g : Fin 20) (l : Fin 128), l.val = g.val → g.val < n → T (ix2 r l) = Scale.kScale (tRow (yV x0 x1 x2 x3 g) r)

/-- Writing group `n`'s scale extends that by one column. -/
theorem tableTo_step (n : Fin 20) (k : BitVec 32) (hk : k = BitVec.ofNat 32 n.val) (T : FVec Ideal S512x128 .f32)
    (h : TableTo x0 x1 x2 x3 n.val T) : TableTo x0 x1 x2 x3 (n.val + 1) (gStep k T (yV x0 x1 x2 x3 n)) := by
  intro r g l hl hg
  rw [gStep_at, hk]
  by_cases he : g = n
  · subst he; rw [hl, if_pos rfl]
  · have hne : g.val ≠ n.val := fun h => he (Fin.ext h)
    rw [if_neg, h r g l hl (by omega)]
    intro hc
    have := congrArg BitVec.toNat hc
    simp only [BitVec.toNat_ofNat] at this
    omega

theorem tableTo_zero (T : FVec Ideal S512x128 .f32) : TableTo x0 x1 x2 x3 0 T := fun _ _ _ _ h => absurd h (Nat.not_lt_zero _)

end Spec

section Operands

variable (c : Dev nD) (arg1 : Memref sig .tc .vmem S4x128x5120 .fp8e4m3) (harg1 : arg1.IsWhole)
  (arg2 : Memref sig .tc .vmem S4x128 .f32) (harg2 : arg2.IsWhole)
  (arg3 : Memref sig .tc .vmem S5120x2560 .fp8e4m3) (harg3 : arg3.IsWhole)
  (arg4 : Memref sig .tc .vmem S1x2560 .f32) (harg4 : arg4.IsWhole)
  (arg7 : Memref sig .tc .vmem S512x128 .f32)
  (x0 : Vec Ideal S4x128x5120 .fp8e4m3) (x1 : Vec Ideal S4x128 .f32) (x2 : Vec Ideal S5120x2560 .fp8e4m3)
  (x3 : Vec Ideal S1x2560 .f32)

/-- The five products: the block's rows against 512 columns of the codes. -/
def gAcc (X : FVec Ideal S4x128x5120 .fp8e4m3) (W : FVec Ideal S5120x512 .fp8e4m3) : FVec Ideal S512x512 .f32 :=
  matmul dot_S512x5120_S5120x512_S512x512_1_0_0_1_n_n none (shapeCast S512x5120 X shapeCasts_S4x128x5120_S512x5120) W
    (constant S512x512 .f32 0x00000000#32)

theorem gAcc_at (X : FVec Ideal S4x128x5120 .fp8e4m3) (W : FVec Ideal S5120x512 .fp8e4m3) (r q : Fin 512) :
    gAcc X W (ix2 r q) = ∑ k : Fin 5120, (X (ix3 (⟨r.val / 128, by omega⟩ : Fin 4) (⟨r.val % 128, by omega⟩ : Fin 128) k) : EReal) * W (ix2 k q) := by
  pointwise [gAcc]

theorem slice_at (p : ℕ) (hs : S512x512.Slices ![0, p] S512x128) (A : FVec Ideal S512x512 .f32) (r : Fin 512) (l : Fin 128)
    (hp : p + l.val < 512) : extractStridedSlice S512x128 ![0, p] A hs (ix2 r l) = A (ix2 r ⟨p + l.val, hp⟩) := by
  pointwise

/-- A row's 128 scales spread over the lanes and turned. -/
theorem spread_at (v : FVec Ideal S1x128 .f32) (s l : Fin 128) : k0_pay5 (F := Ideal) v (ix2 s l) = v (ix2 0 s) := by
  pointwise [k0_pay5]

theorem x1_at (b : ℕ) (hb : b < 4) (inb : ∀ a, (![b, 0] : Fin 2 → Nat) a + S1x128.size a ≤ S4x128.size a) (l : Fin 128) :
    View.readAt (Elt Ideal) arg2.view (Rect.unit (s := S4x128) ![b, 0] S1x128.size inb).toLoadRect (harg2.unread x1) (ix2 0 l)
      = x1 (ix2 (⟨b, hb⟩ : Fin 4) l) := by
  rw [harg2.readAt_unread]
  refine congrArg x1 (funext fun a => Fin.ext ?_)
  refine (Rect.idx_unit_val (s := S4x128) _ _ inb _ a).trans ?_
  fin_cases a
  · show b + 0 = b; omega
  · show 0 + l.val = l.val; omega

theorem w_at (o : ℕ) (inb : ∀ a, (![0, o] : Fin 2 → Nat) a + S5120x512.size a ≤ S5120x2560.size a) (k : Fin 5120) (q : Fin 512)
    (h : o + q.val < 2560) :
    View.readAt (Elt Ideal) arg3.view (Rect.unit (s := S5120x2560) ![0, o] S5120x512.size inb).toLoadRect (harg3.unread x2) (ix2 k q)
      = x2 (ix2 k ⟨o + q.val, h⟩) := by
  rw [harg3.readAt_unread]
  refine congrArg x2 (funext fun a => Fin.ext ?_)
  refine (Rect.idx_unit_val (s := S5120x2560) _ _ inb _ a).trans ?_
  fin_cases a
  · show 0 + k.val = k.val; omega
  · rfl

theorem ws_at (o : ℕ) (inb : ∀ a, (![0, o] : Fin 2 → Nat) a + S1x128.size a ≤ S1x2560.size a) (l : Fin 128) (h : o + l.val < 2560) :
    View.readAt (Elt Ideal) arg4.view (Rect.unit (s := S1x2560) ![0, o] S1x128.size inb).toLoadRect (harg4.unread x3) (ix2 0 l)
      = x3 (ix2 0 ⟨o + l.val, h⟩) := by
  rw [harg4.readAt_unread]
  refine congrArg x3 (funext fun a => Fin.ext ?_)
  refine (Rect.idx_unit_val (s := S1x2560) _ _ inb _ a).trans ?_
  fin_cases a
  · rfl
  · rfl

theorem x0_read (inb : ∀ a, (![0, 0, 0] : Fin 3 → Nat) a + S4x128x5120.size a ≤ S4x128x5120.size a) :
    View.readAt (Elt Ideal) arg1.view (Rect.unit (s := S4x128x5120) ![0, 0, 0] S4x128x5120.size inb).toLoadRect (harg1.unread x0) = x0 := by
  funext i
  rw [harg1.readAt_unread]
  refine congrArg x0 (funext fun a => Fin.ext ?_)
  refine (Rect.idx_unit_val (s := S4x128x5120) _ _ inb _ a).trans ?_
  fin_cases a
  · show 0 + _ = _; rw [Nat.zero_add]
  · show 0 + _ = _; rw [Nat.zero_add]
  · show 0 + _ = _; rw [Nat.zero_add]

/-- The row scales spread over the lanes. -/
def xsV : FVec Ideal S512x128 .f32 := fun i =>
  x1 (ix2 (⟨(i 0).val / 128, by have := (i 0).isLt; change (i 0).val < 512 at this; omega⟩ : Fin 4)
    (⟨(i 0).val % 128, Nat.mod_lt _ (by norm_num)⟩ : Fin 128))

/-- One batch's write of the scratch is its part of `xsV`. -/
theorem xs_piece (b o : ℕ) (hb : b < 4) (ho : o = 128 * b) (inb : ∀ a, (![b, 0] : Fin 2 → Nat) a + S1x128.size a ≤ S4x128.size a)
    (inb' : ∀ a, (![o, 0] : Fin 2 → Nat) a + S128x128.size a ≤ S512x128.size a) (x : S128x128.Idx) :
    k0_pay5 (F := Ideal) (View.readAt (Elt Ideal) arg2.view (Rect.unit (s := S4x128) ![b, 0] S1x128.size inb).toLoadRect (harg2.unread x1)) x
      = xsV x1 ((Rect.unit (s := S512x128) ![o, 0] S128x128.size inb').emb x) := by
  obtain ⟨s, l, rfl⟩ : ∃ (s l : Fin 128), x = ix2 s l := ⟨x 0, x 1, by ext a; fin_cases a <;> rfl⟩
  rw [spread_at, x1_at arg2 harg2 x1 b hb inb s]
  unfold xsV
  have h0 : ((Rect.unit (s := S512x128) ![o, 0] S128x128.size inb').emb (ix2 s l) 0).val = o + s.val :=
    ValueKit.rect_emb_unit_val (s := S512x128) _ _ inb' _ 0
  refine congrArg x1 ?_
  ext a
  fin_cases a
  · show b = _ / 128; rw [h0]; omega
  · show s.val = _ % 128; rw [h0]; omega

/-- The scratch holds the row scales, one row of lanes each. -/
theorem xsb_eq : kernelRun0_A.sl.v35 c arg2 harg2 arg7 x1 = xsV x1 := by
  unfold kernelRun0_A.sl.v35
  have hc : ∀ y : S512x128.Idx, ∃ p ∈ kernelRun0_A.sl.HS0_4 (F := Ideal) c arg2 harg2 x1, y ∈ p.1.set := by
    unfold kernelRun0_A.sl.HS0_4
    exact fun y => View.cover_of_tiled_head _ _ _ (by rfl) y
  rw [View.readCov_eq_canon_ld _ _ _ hc, View.ld_unit_zero (funext fun a => by fin_cases a <;> rfl)]
  funext y
  refine View.canon_apply_of_pieces (xsV x1) _ ?_ y (hc y)
  unfold kernelRun0_A.sl.HS0_4
  intro p hp
  simp only [List.mem_cons, List.not_mem_nil, or_false] at hp
  rcases hp with rfl | rfl | rfl | rfl
  · exact xs_piece arg2 harg2 x1 3 384 (by norm_num) (by norm_num) inb_S4x128_S1x128_3_0 inb_S512x128_S128x128_384_0
  · exact xs_piece arg2 harg2 x1 2 256 (by norm_num) (by norm_num) inb_S4x128_S1x128_2_0 inb_S512x128_S128x128_256_0
  · exact xs_piece arg2 harg2 x1 1 128 (by norm_num) (by norm_num) inb_S4x128_S1x128_1_0 inb_S512x128_S128x128_128_0
  · exact xs_piece arg2 harg2 x1 0 0 (by norm_num) (by norm_num) inb_S4x128_S1x128_0_0 inb_S512x128_S128x128_0_0

/-- A group's operands give the group's values: `o` the product's first column, `p` the group's column in it, `q` the
    group's first column. -/
theorem y_core (G : Fin 20) (o p q : ℕ) (hq : q = 128 * G.val) (hop : o + p = q) (hp : p + 128 ≤ 512)
    (inb0 : ∀ a, (![0, 0, 0] : Fin 3 → Nat) a + S4x128x5120.size a ≤ S4x128x5120.size a)
    (inbW : ∀ a, (![0, o] : Fin 2 → Nat) a + S5120x512.size a ≤ S5120x2560.size a)
    (inbS : ∀ a, (![0, q] : Fin 2 → Nat) a + S1x128.size a ≤ S1x2560.size a)
    (hs : S512x512.Slices ![0, p] S512x128) :
    gY (extractStridedSlice S512x128 ![0, p]
        (gAcc (View.readAt (Elt Ideal) arg1.view (Rect.unit (s := S4x128x5120) ![0, 0, 0] S4x128x5120.size inb0).toLoadRect (harg1.unread x0))
          (View.readAt (Elt Ideal) arg3.view (Rect.unit (s := S5120x2560) ![0, o] S5120x512.size inbW).toLoadRect (harg3.unread x2))) hs)
        (kernelRun0_A.sl.v35 c arg2 harg2 arg7 x1)
        (View.readAt (Elt Ideal) arg4.view (Rect.unit (s := S1x2560) ![0, q] S1x128.size inbS).toLoadRect (harg4.unread x3))
      = yV x0 x1 x2 x3 G := by
  funext x
  obtain ⟨r, l, rfl⟩ : ∃ (r : Fin 512) (l : Fin 128), x = ix2 r l := ⟨x 0, x 1, by ext a; fin_cases a <;> rfl⟩
  have hr : r.val < 512 := r.isLt
  have hl : l.val < 128 := l.isLt
  have hG : G.val < 20 := G.isLt
  rw [gY_at, slice_at p hs _ r l (by omega), gAcc_at, xsb_eq, x0_read, ws_at arg4 harg4 x3 q inbS l (by omega)]
  simp only [w_at arg3 harg3 x2 o inbW _ (⟨p + l.val, by omega⟩ : Fin 512) (by show o + (p + l.val) < 2560; omega)]
  have hcol : (⟨o + (p + l.val), by omega⟩ : Fin 2560) = ⟨128 * G.val + l.val, by omega⟩ := Fin.ext (by show o + (p + l.val) = 128 * G.val + l.val; omega)
  have hcol' : (⟨q + l.val, by omega⟩ : Fin 2560) = ⟨128 * G.val + l.val, by omega⟩ := Fin.ext (by show q + l.val = 128 * G.val + l.val; omega)
  rw [hcol, hcol']
  rfl

end Operands

end Cert.KernelIdeal.Value

end
-- ==== Proof.Words.lean ====
/- The run's stored values are the groups' codes and the table of scales: each of the twenty groups instances of one
   statement about a group's operands. -/
module

public import proofs.«01_k».proof.Proof.Rows

@[expose] public section

set_option maxRecDepth 200000

noncomputable section

namespace Cert.KernelIdeal.Value

open Cert.KernelIdeal Cert.KernelIdeal.Gen Idealize.ShloMosaic Idealize.ShloMosaic.TcCoe Idealize.SL.Sem

variable (c : Dev nD) (arg1 : Memref sig .tc .vmem S4x128x5120 .fp8e4m3) (harg1 : arg1.IsWhole)
  (arg2 : Memref sig .tc .vmem S4x128 .f32) (harg2 : arg2.IsWhole)
  (arg3 : Memref sig .tc .vmem S5120x2560 .fp8e4m3) (harg3 : arg3.IsWhole)
  (arg4 : Memref sig .tc .vmem S1x2560 .f32) (harg4 : arg4.IsWhole)
  (arg7 : Memref sig .tc .vmem S512x128 .f32)
  (x0 : Vec Ideal S4x128x5120 .fp8e4m3) (x1 : Vec Ideal S4x128 .f32) (x2 : Vec Ideal S5120x2560 .fp8e4m3)
  (x3 : Vec Ideal S1x2560 .f32)

/-! ## The codes stored for each group -/

theorem codes_0 : k0_pay16 (kernelRun0_A.sl.r_3 c arg1 harg1 arg2 harg2 arg3 harg3 arg4 harg4 arg7 x0 x1 x2 x3) (kernelRun0_A.sl.r_5 c arg1 harg1 arg2 harg2 arg3 harg3 arg4 harg4 arg7 x0 x1 x2 x3) = gCodes (yV x0 x1 x2 x3 0) :=
  Eq.trans rfl (congrArg gCodes (y_core c arg1 harg1 arg2 harg2 arg3 harg3 arg4 harg4 arg7 x0 x1 x2 x3 0 0 0 0 rfl rfl (by norm_num)
      inb_S4x128x5120_S4x128x5120_0_0_0 inb_S5120x2560_S5120x512_0_0 inb_S1x2560_S1x128_0_0 slices_S512x512_o0_0_S512x128))

theorem codes_1 : k0_pay21 (kernelRun0_A.sl.r_7 c arg1 harg1 arg2 harg2 arg3 harg3 arg4 harg4 arg7 x0 x1 x2 x3) (kernelRun0_A.sl.r_8 c arg1 harg1 arg2 harg2 arg3 harg3 arg4 harg4 arg7 x0 x1 x2 x3) = gCodes (yV x0 x1 x2 x3 1) :=
  Eq.trans rfl (congrArg gCodes (y_core c arg1 harg1 arg2 harg2 arg3 harg3 arg4 harg4 arg7 x0 x1 x2 x3 1 0 128 128 rfl rfl (by norm_num)
      inb_S4x128x5120_S4x128x5120_0_0_0 inb_S5120x2560_S5120x512_0_0 inb_S1x2560_S1x128_0_128 slices_S512x512_o0_128_S512x128))

theorem codes_2 : k0_pay27 (kernelRun0_A.sl.r_10 c arg1 harg1 arg2 harg2 arg3 harg3 arg4 harg4 arg7 x0 x1 x2 x3) (kernelRun0_A.sl.r_11 c arg1 harg1 arg2 harg2 arg3 harg3 arg4 harg4 arg7 x0 x1 x2 x3) k0_pay25 = gCodes (yV x0 x1 x2 x3 2) :=
  Eq.trans rfl (congrArg gCodes (y_core c arg1 harg1 arg2 harg2 arg3 harg3 arg4 harg4 arg7 x0 x1 x2 x3 2 0 256 256 rfl rfl (by norm_num)
      inb_S4x128x5120_S4x128x5120_0_0_0 inb_S5120x2560_S5120x512_0_0 inb_S1x2560_S1x128_0_256 slices_S512x512_o0_256_S512x128))

theorem codes_3 : k0_pay34 (kernelRun0_A.sl.r_15 c arg1 harg1 arg2 harg2 arg3 harg3 arg4 harg4 arg7 x0 x1 x2 x3) kernelRun0_A.sl.cst_92 = gCodes (yV x0 x1 x2 x3 3) :=
  Eq.trans rfl (congrArg gCodes (y_core c arg1 harg1 arg2 harg2 arg3 harg3 arg4 harg4 arg7 x0 x1 x2 x3 3 0 384 384 rfl rfl (by norm_num)
      inb_S4x128x5120_S4x128x5120_0_0_0 inb_S5120x2560_S5120x512_0_0 inb_S1x2560_S1x128_0_384 slices_S512x512_o0_384_S512x128))

theorem codes_4 : k0_pay43 (kernelRun0_A.sl.r_18 c arg1 harg1 arg2 harg2 arg3 harg3 arg4 harg4 arg7 x0 x1 x2 x3) (kernelRun0_A.sl.r_19 c arg1 harg1 arg2 harg2 arg3 harg3 arg4 harg4 arg7 x0 x1 x2 x3) k0_pay40 k0_pay41 = gCodes (yV x0 x1 x2 x3 4) :=
  Eq.trans rfl (congrArg gCodes (y_core c arg1 harg1 arg2 harg2 arg3 harg3 arg4 harg4 arg7 x0 x1 x2 x3 4 512 0 512 rfl rfl (by norm_num)
      inb_S4x128x5120_S4x128x5120_0_0_0 inb_S5120x2560_S5120x512_0_512 inb_S1x2560_S1x128_0_512 slices_S512x512_o0_0_S512x128))

theorem codes_5 : k0_pay50 (kernelRun0_A.sl.r_21 c arg1 harg1 arg2 harg2 arg3 harg3 arg4 harg4 arg7 x0 x1 x2 x3) k0_pay46 = gCodes (yV x0 x1 x2 x3 5) :=
  Eq.trans rfl (congrArg gCodes (y_core c arg1 harg1 arg2 harg2 arg3 harg3 arg4 harg4 arg7 x0 x1 x2 x3 5 512 128 640 rfl rfl (by norm_num)
      inb_S4x128x5120_S4x128x5120_0_0_0 inb_S5120x2560_S5120x512_0_512 inb_S1x2560_S1x128_0_640 slices_S512x512_o0_128_S512x128))

theorem codes_6 : k0_pay55 (kernelRun0_A.sl.r_24 c arg1 harg1 arg2 harg2 arg3 harg3 arg4 harg4 arg7 x0 x1 x2 x3) (kernelRun0_A.sl.r_25 c arg1 harg1 arg2 harg2 arg3 harg3 arg4 harg4 arg7 x0 x1 x2 x3) = gCodes (yV x0 x1 x2 x3 6) :=
  Eq.trans rfl (congrArg gCodes (y_core c arg1 harg1 arg2 harg2 arg3 harg3 arg4 harg4 arg7 x0 x1 x2 x3 6 512 256 768 rfl rfl (by norm_num)
      inb_S4x128x5120_S4x128x5120_0_0_0 inb_S5120x2560_S5120x512_0_512 inb_S1x2560_S1x128_0_768 slices_S512x512_o0_256_S512x128))

theorem codes_7 : k0_pay62 (kernelRun0_A.sl.r_28 c arg1 harg1 arg2 harg2 arg3 harg3 arg4 harg4 arg7 x0 x1 x2 x3) k0_pay59 (kernelRun0_A.sl.r_29 c arg1 harg1 arg2 harg2 arg3 harg3 arg4 harg4 arg7 x0 x1 x2 x3) 0#32 = gCodes (yV x0 x1 x2 x3 7) :=
  Eq.trans rfl (congrArg gCodes (y_core c arg1 harg1 arg2 harg2 arg3 harg3 arg4 harg4 arg7 x0 x1 x2 x3 7 512 384 896 rfl rfl (by norm_num)
      inb_S4x128x5120_S4x128x5120_0_0_0 inb_S5120x2560_S5120x512_0_512 inb_S1x2560_S1x128_0_896 slices_S512x512_o0_384_S512x128))

theorem codes_8 : k0_pay70 (kernelRun0_A.sl.r_34 c arg1 harg1 arg2 harg2 arg3 harg3 arg4 harg4 arg7 x0 x1 x2 x3) = gCodes (yV x0 x1 x2 x3 8) :=
  Eq.trans rfl (congrArg gCodes (y_core c arg1 harg1 arg2 harg2 arg3 harg3 arg4 harg4 arg7 x0 x1 x2 x3 8 1024 0 1024 rfl rfl (by norm_num)
      inb_S4x128x5120_S4x128x5120_0_0_0 inb_S5120x2560_S5120x512_0_1024 inb_S1x2560_S1x128_0_1024 slices_S512x512_o0_0_S512x128))

theorem codes_9 : k0_pay76 (kernelRun0_A.sl.r_36 c arg1 harg1 arg2 harg2 arg3 harg3 arg4 harg4 arg7 x0 x1 x2 x3) (kernelRun0_A.sl.r_37 c arg1 harg1 arg2 harg2 arg3 harg3 arg4 harg4 arg7 x0 x1 x2 x3) (kernelRun0_A.sl.r_38 c arg1 harg1 arg2 harg2 arg3 harg3 arg4 harg4 arg7 x0 x1 x2 x3) = gCodes (yV x0 x1 x2 x3 9) :=
  Eq.trans rfl (congrArg gCodes (y_core c arg1 harg1 arg2 harg2 arg3 harg3 arg4 harg4 arg7 x0 x1 x2 x3 9 1024 128 1152 rfl rfl (by norm_num)
      inb_S4x128x5120_S4x128x5120_0_0_0 inb_S5120x2560_S5120x512_0_1024 inb_S1x2560_S1x128_0_1152 slices_S512x512_o0_128_S512x128))

theorem codes_10 : k0_pay84 (kernelRun0_A.sl.r_40 c arg1 harg1 arg2 harg2 arg3 harg3 arg4 harg4 arg7 x0 x1 x2 x3) (kernelRun0_A.sl.r_41 c arg1 harg1 arg2 harg2 arg3 harg3 arg4 harg4 arg7 x0 x1 x2 x3) kernelRun0_A.sl.v606 k0_pay80 k0_pay81 k0_pay82 = gCodes (yV x0 x1 x2 x3 10) :=
  Eq.trans rfl (congrArg gCodes (y_core c arg1 harg1 arg2 harg2 arg3 harg3 arg4 harg4 arg7 x0 x1 x2 x3 10 1024 256 1280 rfl rfl (by norm_num)
      inb_S4x128x5120_S4x128x5120_0_0_0 inb_S5120x2560_S5120x512_0_1024 inb_S1x2560_S1x128_0_1280 slices_S512x512_o0_256_S512x128))

theorem codes_11 : (kernelRun0_A.sl.r_46 c arg1 harg1 arg2 harg2 arg3 harg3 arg4 harg4 arg7 x0 x1 x2 x3) = gCodes (yV x0 x1 x2 x3 11) :=
  Eq.trans rfl (congrArg gCodes (y_core c arg1 harg1 arg2 harg2 arg3 harg3 arg4 harg4 arg7 x0 x1 x2 x3 11 1024 384 1408 rfl rfl (by norm_num)
      inb_S4x128x5120_S4x128x5120_0_0_0 inb_S5120x2560_S5120x512_0_1024 inb_S1x2560_S1x128_0_1408 slices_S512x512_o0_384_S512x128))

theorem codes_12 : k0_pay97 (kernelRun0_A.sl.r_49 c arg1 harg1 arg2 harg2 arg3 harg3 arg4 harg4 arg7 x0 x1 x2 x3) (kernelRun0_A.sl.r_50 c arg1 harg1 arg2 harg2 arg3 harg3 arg4 harg4 arg7 x0 x1 x2 x3) = gCodes (yV x0 x1 x2 x3 12) :=
  Eq.trans rfl (congrArg gCodes (y_core c arg1 harg1 arg2 harg2 arg3 harg3 arg4 harg4 arg7 x0 x1 x2 x3 12 1536 0 1536 rfl rfl (by norm_num)
      inb_S4x128x5120_S4x128x5120_0_0_0 inb_S5120x2560_S5120x512_0_1536 inb_S1x2560_S1x128_0_1536 slices_S512x512_o0_0_S512x128))

theorem codes_13 : k0_pay102 (kernelRun0_A.sl.r_52 c arg1 harg1 arg2 harg2 arg3 harg3 arg4 harg4 arg7 x0 x1 x2 x3) (kernelRun0_A.sl.r_53 c arg1 harg1 arg2 harg2 arg3 harg3 arg4 harg4 arg7 x0 x1 x2 x3) = gCodes (yV x0 x1 x2 x3 13) :=
  Eq.trans rfl (congrArg gCodes (y_core c arg1 harg1 arg2 harg2 arg3 harg3 arg4 harg4 arg7 x0 x1 x2 x3 13 1536 128 1664 rfl rfl (by norm_num)
      inb_S4x128x5120_S4x128x5120_0_0_0 inb_S5120x2560_S5120x512_0_1536 inb_S1x2560_S1x128_0_1664 slices_S512x512_o0_128_S512x128))

theorem codes_14 : k0_pay109 (kernelRun0_A.sl.r_57 c arg1 harg1 arg2 harg2 arg3 harg3 arg4 harg4 arg7 x0 x1 x2 x3) kernelRun0_A.sl.cst_92 kernelRun0_A.sl.cst_342 = gCodes (yV x0 x1 x2 x3 14) :=
  Eq.trans rfl (congrArg gCodes (y_core c arg1 harg1 arg2 harg2 arg3 harg3 arg4 harg4 arg7 x0 x1 x2 x3 14 1536 256 1792 rfl rfl (by norm_num)
      inb_S4x128x5120_S4x128x5120_0_0_0 inb_S5120x2560_S5120x512_0_1536 inb_S1x2560_S1x128_0_1792 slices_S512x512_o0_256_S512x128))

theorem codes_15 : k0_pay115 (kernelRun0_A.sl.r_59 c arg1 harg1 arg2 harg2 arg3 harg3 arg4 harg4 arg7 x0 x1 x2 x3) (kernelRun0_A.sl.r_60 c arg1 harg1 arg2 harg2 arg3 harg3 arg4 harg4 arg7 x0 x1 x2 x3) (kernelRun0_A.sl.r_61 c arg1 harg1 arg2 harg2 arg3 harg3 arg4 harg4 arg7 x0 x1 x2 x3) = gCodes (yV x0 x1 x2 x3 15) :=
  Eq.trans rfl (congrArg gCodes (y_core c arg1 harg1 arg2 harg2 arg3 harg3 arg4 harg4 arg7 x0 x1 x2 x3 15 1536 384 1920 rfl rfl (by norm_num)
      inb_S4x128x5120_S4x128x5120_0_0_0 inb_S5120x2560_S5120x512_0_1536 inb_S1x2560_S1x128_0_1920 slices_S512x512_o0_384_S512x128))

theorem codes_16 : k0_pay122 (kernelRun0_A.sl.r_64 c arg1 harg1 arg2 harg2 arg3 harg3 arg4 harg4 arg7 x0 x1 x2 x3) = gCodes (yV x0 x1 x2 x3 16) :=
  Eq.trans rfl (congrArg gCodes (y_core c arg1 harg1 arg2 harg2 arg3 harg3 arg4 harg4 arg7 x0 x1 x2 x3 16 2048 0 2048 rfl rfl (by norm_num)
      inb_S4x128x5120_S4x128x5120_0_0_0 inb_S5120x2560_S5120x512_0_2048 inb_S1x2560_S1x128_0_2048 slices_S512x512_o0_0_S512x128))

theorem codes_17 : k0_pay127 (kernelRun0_A.sl.r_67 c arg1 harg1 arg2 harg2 arg3 harg3 arg4 harg4 arg7 x0 x1 x2 x3) (kernelRun0_A.sl.r_68 c arg1 harg1 arg2 harg2 arg3 harg3 arg4 harg4 arg7 x0 x1 x2 x3) 2122317824#32 = gCodes (yV x0 x1 x2 x3 17) :=
  Eq.trans rfl (congrArg gCodes (y_core c arg1 harg1 arg2 harg2 arg3 harg3 arg4 harg4 arg7 x0 x1 x2 x3 17 2048 128 2176 rfl rfl (by norm_num)
      inb_S4x128x5120_S4x128x5120_0_0_0 inb_S5120x2560_S5120x512_0_2048 inb_S1x2560_S1x128_0_2176 slices_S512x512_o0_128_S512x128))

theorem codes_18 : k0_pay135 (kernelRun0_A.sl.r_71 c arg1 harg1 arg2 harg2 arg3 harg3 arg4 harg4 arg7 x0 x1 x2 x3) k0_pay131 (kernelRun0_A.sl.r_72 c arg1 harg1 arg2 harg2 arg3 harg3 arg4 harg4 arg7 x0 x1 x2 x3) k0_pay133 = gCodes (yV x0 x1 x2 x3 18) :=
  Eq.trans rfl (congrArg gCodes (y_core c arg1 harg1 arg2 harg2 arg3 harg3 arg4 harg4 arg7 x0 x1 x2 x3 18 2048 256 2304 rfl rfl (by norm_num)
      inb_S4x128x5120_S4x128x5120_0_0_0 inb_S5120x2560_S5120x512_0_2048 inb_S1x2560_S1x128_0_2304 slices_S512x512_o0_256_S512x128))

theorem codes_19 : k0_pay140 (kernelRun0_A.sl.r_74 c arg1 harg1 arg2 harg2 arg3 harg3 arg4 harg4 arg7 x0 x1 x2 x3) (kernelRun0_A.sl.r_75 c arg1 harg1 arg2 harg2 arg3 harg3 arg4 harg4 arg7 x0 x1 x2 x3) = gCodes (yV x0 x1 x2 x3 19) :=
  Eq.trans rfl (congrArg gCodes (y_core c arg1 harg1 arg2 harg2 arg3 harg3 arg4 harg4 arg7 x0 x1 x2 x3 19 2048 384 2432 rfl rfl (by norm_num)
      inb_S4x128x5120_S4x128x5120_0_0_0 inb_S5120x2560_S5120x512_0_2048 inb_S1x2560_S1x128_0_2432 slices_S512x512_o0_384_S512x128))

/-! ## The table after each group -/

theorem table_0 : kernelRun0_A.sl.r_6 c arg1 harg1 arg2 harg2 arg3 harg3 arg4 harg4 arg7 x0 x1 x2 x3 = gStep 0#32 (k0_pay9 (F := Ideal)) (yV x0 x1 x2 x3 0) :=
  Eq.trans rfl (congrArg (gStep 0#32 _) (y_core c arg1 harg1 arg2 harg2 arg3 harg3 arg4 harg4 arg7 x0 x1 x2 x3 0 0 0 0 rfl rfl (by norm_num)
      inb_S4x128x5120_S4x128x5120_0_0_0 inb_S5120x2560_S5120x512_0_0 inb_S1x2560_S1x128_0_0 slices_S512x512_o0_0_S512x128))

theorem table_1 : kernelRun0_A.sl.r_9 c arg1 harg1 arg2 harg2 arg3 harg3 arg4 harg4 arg7 x0 x1 x2 x3 = gStep 1#32 (kernelRun0_A.sl.r_6 c arg1 harg1 arg2 harg2 arg3 harg3 arg4 harg4 arg7 x0 x1 x2 x3) (yV x0 x1 x2 x3 1) :=
  Eq.trans rfl (congrArg (gStep 1#32 _) (y_core c arg1 harg1 arg2 harg2 arg3 harg3 arg4 harg4 arg7 x0 x1 x2 x3 1 0 128 128 rfl rfl (by norm_num)
      inb_S4x128x5120_S4x128x5120_0_0_0 inb_S5120x2560_S5120x512_0_0 inb_S1x2560_S1x128_0_128 slices_S512x512_o0_128_S512x128))

theorem table_2 : kernelRun0_A.sl.r_12 c arg1 harg1 arg2 harg2 arg3 harg3 arg4 harg4 arg7 x0 x1 x2 x3 = gStep 2#32 (kernelRun0_A.sl.r_9 c arg1 harg1 arg2 harg2 arg3 harg3 arg4 harg4 arg7 x0 x1 x2 x3) (yV x0 x1 x2 x3 2) :=
  Eq.trans rfl (congrArg (gStep 2#32 _) (y_core c arg1 harg1 arg2 harg2 arg3 harg3 arg4 harg4 arg7 x0 x1 x2 x3 2 0 256 256 rfl rfl (by norm_num)
      inb_S4x128x5120_S4x128x5120_0_0_0 inb_S5120x2560_S5120x512_0_0 inb_S1x2560_S1x128_0_256 slices_S512x512_o0_256_S512x128))

theorem table_3 : kernelRun0_A.sl.r_16 c arg1 harg1 arg2 harg2 arg3 harg3 arg4 harg4 arg7 x0 x1 x2 x3 = gStep 3#32 (kernelRun0_A.sl.r_12 c arg1 harg1 arg2 harg2 arg3 harg3 arg4 harg4 arg7 x0 x1 x2 x3) (yV x0 x1 x2 x3 3) :=
  Eq.trans rfl (congrArg (gStep 3#32 _) (y_core c arg1 harg1 arg2 harg2 arg3 harg3 arg4 harg4 arg7 x0 x1 x2 x3 3 0 384 384 rfl rfl (by norm_num)
      inb_S4x128x5120_S4x128x5120_0_0_0 inb_S5120x2560_S5120x512_0_0 inb_S1x2560_S1x128_0_384 slices_S512x512_o0_384_S512x128))

theorem table_4 : kernelRun0_A.sl.r_20 c arg1 harg1 arg2 harg2 arg3 harg3 arg4 harg4 arg7 x0 x1 x2 x3 = gStep 4#32 (kernelRun0_A.sl.r_16 c arg1 harg1 arg2 harg2 arg3 harg3 arg4 harg4 arg7 x0 x1 x2 x3) (yV x0 x1 x2 x3 4) :=
  Eq.trans rfl (congrArg (gStep 4#32 _) (y_core c arg1 harg1 arg2 harg2 arg3 harg3 arg4 harg4 arg7 x0 x1 x2 x3 4 512 0 512 rfl rfl (by norm_num)
      inb_S4x128x5120_S4x128x5120_0_0_0 inb_S5120x2560_S5120x512_0_512 inb_S1x2560_S1x128_0_512 slices_S512x512_o0_0_S512x128))

theorem table_5 : kernelRun0_A.sl.r_23 c arg1 harg1 arg2 harg2 arg3 harg3 arg4 harg4 arg7 x0 x1 x2 x3 = gStep 5#32 (kernelRun0_A.sl.r_20 c arg1 harg1 arg2 harg2 arg3 harg3 arg4 harg4 arg7 x0 x1 x2 x3) (yV x0 x1 x2 x3 5) :=
  Eq.trans rfl (congrArg (gStep 5#32 _) (y_core c arg1 harg1 arg2 harg2 arg3 harg3 arg4 harg4 arg7 x0 x1 x2 x3 5 512 128 640 rfl rfl (by norm_num)
      inb_S4x128x5120_S4x128x5120_0_0_0 inb_S5120x2560_S5120x512_0_512 inb_S1x2560_S1x128_0_640 slices_S512x512_o0_128_S512x128))

theorem table_6 : kernelRun0_A.sl.r_27 c arg1 harg1 arg2 harg2 arg3 harg3 arg4 harg4 arg7 x0 x1 x2 x3 = gStep 6#32 (kernelRun0_A.sl.r_23 c arg1 harg1 arg2 harg2 arg3 harg3 arg4 harg4 arg7 x0 x1 x2 x3) (yV x0 x1 x2 x3 6) :=
  Eq.trans rfl (congrArg (gStep 6#32 _) (y_core c arg1 harg1 arg2 harg2 arg3 harg3 arg4 harg4 arg7 x0 x1 x2 x3 6 512 256 768 rfl rfl (by norm_num)
      inb_S4x128x5120_S4x128x5120_0_0_0 inb_S5120x2560_S5120x512_0_512 inb_S1x2560_S1x128_0_768 slices_S512x512_o0_256_S512x128))

theorem table_7 : kernelRun0_A.sl.r_30 c arg1 harg1 arg2 harg2 arg3 harg3 arg4 harg4 arg7 x0 x1 x2 x3 = gStep 7#32 (kernelRun0_A.sl.r_27 c arg1 harg1 arg2 harg2 arg3 harg3 arg4 harg4 arg7 x0 x1 x2 x3) (yV x0 x1 x2 x3 7) :=
  Eq.trans rfl (congrArg (gStep 7#32 _) (y_core c arg1 harg1 arg2 harg2 arg3 harg3 arg4 harg4 arg7 x0 x1 x2 x3 7 512 384 896 rfl rfl (by norm_num)
      inb_S4x128x5120_S4x128x5120_0_0_0 inb_S5120x2560_S5120x512_0_512 inb_S1x2560_S1x128_0_896 slices_S512x512_o0_384_S512x128))

theorem table_8 : kernelRun0_A.sl.r_35 c arg1 harg1 arg2 harg2 arg3 harg3 arg4 harg4 arg7 x0 x1 x2 x3 = gStep 8#32 (kernelRun0_A.sl.r_30 c arg1 harg1 arg2 harg2 arg3 harg3 arg4 harg4 arg7 x0 x1 x2 x3) (yV x0 x1 x2 x3 8) :=
  Eq.trans rfl (congrArg (gStep 8#32 _) (y_core c arg1 harg1 arg2 harg2 arg3 harg3 arg4 harg4 arg7 x0 x1 x2 x3 8 1024 0 1024 rfl rfl (by norm_num)
      inb_S4x128x5120_S4x128x5120_0_0_0 inb_S5120x2560_S5120x512_0_1024 inb_S1x2560_S1x128_0_1024 slices_S512x512_o0_0_S512x128))

theorem table_9 : kernelRun0_A.sl.r_39 c arg1 harg1 arg2 harg2 arg3 harg3 arg4 harg4 arg7 x0 x1 x2 x3 = gStep 9#32 (kernelRun0_A.sl.r_35 c arg1 harg1 arg2 harg2 arg3 harg3 arg4 harg4 arg7 x0 x1 x2 x3) (yV x0 x1 x2 x3 9) :=
  Eq.trans rfl (congrArg (gStep 9#32 _) (y_core c arg1 harg1 arg2 harg2 arg3 harg3 arg4 harg4 arg7 x0 x1 x2 x3 9 1024 128 1152 rfl rfl (by norm_num)
      inb_S4x128x5120_S4x128x5120_0_0_0 inb_S5120x2560_S5120x512_0_1024 inb_S1x2560_S1x128_0_1152 slices_S512x512_o0_128_S512x128))

theorem table_10 : kernelRun0_A.sl.r_42 c arg1 harg1 arg2 harg2 arg3 harg3 arg4 harg4 arg7 x0 x1 x2 x3 = gStep 10#32 (kernelRun0_A.sl.r_39 c arg1 harg1 arg2 harg2 arg3 harg3 arg4 harg4 arg7 x0 x1 x2 x3) (yV x0 x1 x2 x3 10) :=
  Eq.trans rfl (congrArg (gStep 10#32 _) (y_core c arg1 harg1 arg2 harg2 arg3 harg3 arg4 harg4 arg7 x0 x1 x2 x3 10 1024 256 1280 rfl rfl (by norm_num)
      inb_S4x128x5120_S4x128x5120_0_0_0 inb_S5120x2560_S5120x512_0_1024 inb_S1x2560_S1x128_0_1280 slices_S512x512_o0_256_S512x128))

theorem table_11 : kernelRun0_A.sl.r_47 c arg1 harg1 arg2 harg2 arg3 harg3 arg4 harg4 arg7 x0 x1 x2 x3 = gStep 11#32 (kernelRun0_A.sl.r_42 c arg1 harg1 arg2 harg2 arg3 harg3 arg4 harg4 arg7 x0 x1 x2 x3) (yV x0 x1 x2 x3 11) :=
  Eq.trans rfl (congrArg (gStep 11#32 _) (y_core c arg1 harg1 arg2 harg2 arg3 harg3 arg4 harg4 arg7 x0 x1 x2 x3 11 1024 384 1408 rfl rfl (by norm_num)
      inb_S4x128x5120_S4x128x5120_0_0_0 inb_S5120x2560_S5120x512_0_1024 inb_S1x2560_S1x128_0_1408 slices_S512x512_o0_384_S512x128))

theorem table_12 : kernelRun0_A.sl.r_51 c arg1 harg1 arg2 harg2 arg3 harg3 arg4 harg4 arg7 x0 x1 x2 x3 = gStep 12#32 (kernelRun0_A.sl.r_47 c arg1 harg1 arg2 harg2 arg3 harg3 arg4 harg4 arg7 x0 x1 x2 x3) (yV x0 x1 x2 x3 12) :=
  Eq.trans rfl (congrArg (gStep 12#32 _) (y_core c arg1 harg1 arg2 harg2 arg3 harg3 arg4 harg4 arg7 x0 x1 x2 x3 12 1536 0 1536 rfl rfl (by norm_num)
      inb_S4x128x5120_S4x128x5120_0_0_0 inb_S5120x2560_S5120x512_0_1536 inb_S1x2560_S1x128_0_1536 slices_S512x512_o0_0_S512x128))

theorem table_13 : kernelRun0_A.sl.r_54 c arg1 harg1 arg2 harg2 arg3 harg3 arg4 harg4 arg7 x0 x1 x2 x3 = gStep 13#32 (kernelRun0_A.sl.r_51 c arg1 harg1 arg2 harg2 arg3 harg3 arg4 harg4 arg7 x0 x1 x2 x3) (yV x0 x1 x2 x3 13) :=
  Eq.trans rfl (congrArg (gStep 13#32 _) (y_core c arg1 harg1 arg2 harg2 arg3 harg3 arg4 harg4 arg7 x0 x1 x2 x3 13 1536 128 1664 rfl rfl (by norm_num)
      inb_S4x128x5120_S4x128x5120_0_0_0 inb_S5120x2560_S5120x512_0_1536 inb_S1x2560_S1x128_0_1664 slices_S512x512_o0_128_S512x128))

theorem table_14 : kernelRun0_A.sl.r_58 c arg1 harg1 arg2 harg2 arg3 harg3 arg4 harg4 arg7 x0 x1 x2 x3 = gStep 14#32 (kernelRun0_A.sl.r_54 c arg1 harg1 arg2 harg2 arg3 harg3 arg4 harg4 arg7 x0 x1 x2 x3) (yV x0 x1 x2 x3 14) :=
  Eq.trans rfl (congrArg (gStep 14#32 _) (y_core c arg1 harg1 arg2 harg2 arg3 harg3 arg4 harg4 arg7 x0 x1 x2 x3 14 1536 256 1792 rfl rfl (by norm_num)
      inb_S4x128x5120_S4x128x5120_0_0_0 inb_S5120x2560_S5120x512_0_1536 inb_S1x2560_S1x128_0_1792 slices_S512x512_o0_256_S512x128))

theorem table_15 : kernelRun0_A.sl.r_62 c arg1 harg1 arg2 harg2 arg3 harg3 arg4 harg4 arg7 x0 x1 x2 x3 = gStep 15#32 (kernelRun0_A.sl.r_58 c arg1 harg1 arg2 harg2 arg3 harg3 arg4 harg4 arg7 x0 x1 x2 x3) (yV x0 x1 x2 x3 15) :=
  Eq.trans rfl (congrArg (gStep 15#32 _) (y_core c arg1 harg1 arg2 harg2 arg3 harg3 arg4 harg4 arg7 x0 x1 x2 x3 15 1536 384 1920 rfl rfl (by norm_num)
      inb_S4x128x5120_S4x128x5120_0_0_0 inb_S5120x2560_S5120x512_0_1536 inb_S1x2560_S1x128_0_1920 slices_S512x512_o0_384_S512x128))

theorem table_16 : kernelRun0_A.sl.r_66 c arg1 harg1 arg2 harg2 arg3 harg3 arg4 harg4 arg7 x0 x1 x2 x3 = gStep 16#32 (kernelRun0_A.sl.r_62 c arg1 harg1 arg2 harg2 arg3 harg3 arg4 harg4 arg7 x0 x1 x2 x3) (yV x0 x1 x2 x3 16) :=
  Eq.trans rfl (congrArg (gStep 16#32 _) (y_core c arg1 harg1 arg2 harg2 arg3 harg3 arg4 harg4 arg7 x0 x1 x2 x3 16 2048 0 2048 rfl rfl (by norm_num)
      inb_S4x128x5120_S4x128x5120_0_0_0 inb_S5120x2560_S5120x512_0_2048 inb_S1x2560_S1x128_0_2048 slices_S512x512_o0_0_S512x128))

theorem table_17 : kernelRun0_A.sl.r_70 c arg1 harg1 arg2 harg2 arg3 harg3 arg4 harg4 arg7 x0 x1 x2 x3 = gStep 17#32 (kernelRun0_A.sl.r_66 c arg1 harg1 arg2 harg2 arg3 harg3 arg4 harg4 arg7 x0 x1 x2 x3) (yV x0 x1 x2 x3 17) :=
  Eq.trans rfl (congrArg (gStep 17#32 _) (y_core c arg1 harg1 arg2 harg2 arg3 harg3 arg4 harg4 arg7 x0 x1 x2 x3 17 2048 128 2176 rfl rfl (by norm_num)
      inb_S4x128x5120_S4x128x5120_0_0_0 inb_S5120x2560_S5120x512_0_2048 inb_S1x2560_S1x128_0_2176 slices_S512x512_o0_128_S512x128))

theorem table_18 : kernelRun0_A.sl.r_73 c arg1 harg1 arg2 harg2 arg3 harg3 arg4 harg4 arg7 x0 x1 x2 x3 = gStep 18#32 (kernelRun0_A.sl.r_70 c arg1 harg1 arg2 harg2 arg3 harg3 arg4 harg4 arg7 x0 x1 x2 x3) (yV x0 x1 x2 x3 18) :=
  Eq.trans rfl (congrArg (gStep 18#32 _) (y_core c arg1 harg1 arg2 harg2 arg3 harg3 arg4 harg4 arg7 x0 x1 x2 x3 18 2048 256 2304 rfl rfl (by norm_num)
      inb_S4x128x5120_S4x128x5120_0_0_0 inb_S5120x2560_S5120x512_0_2048 inb_S1x2560_S1x128_0_2304 slices_S512x512_o0_256_S512x128))

theorem table_19 : kernelRun0_A.sl.v1149 c arg1 harg1 arg2 harg2 arg3 harg3 arg4 harg4 arg7 x0 x1 x2 x3 = gStep 19#32 (kernelRun0_A.sl.r_73 c arg1 harg1 arg2 harg2 arg3 harg3 arg4 harg4 arg7 x0 x1 x2 x3) (yV x0 x1 x2 x3 19) :=
  Eq.trans rfl (congrArg (gStep 19#32 _) (y_core c arg1 harg1 arg2 harg2 arg3 harg3 arg4 harg4 arg7 x0 x1 x2 x3 19 2048 384 2432 rfl rfl (by norm_num)
      inb_S4x128x5120_S4x128x5120_0_0_0 inb_S5120x2560_S5120x512_0_2048 inb_S1x2560_S1x128_0_2432 slices_S512x512_o0_384_S512x128))

/-- The last table holds every group's scales in its first twenty columns. -/
theorem table_all : TableTo x0 x1 x2 x3 20 (kernelRun0_A.sl.v1149 c arg1 harg1 arg2 harg2 arg3 harg3 arg4 harg4 arg7 x0 x1 x2 x3) := by
  rw [table_19]; refine tableTo_step x0 x1 x2 x3 19 _ rfl _ ?_
  rw [table_18]; refine tableTo_step x0 x1 x2 x3 18 _ rfl _ ?_
  rw [table_17]; refine tableTo_step x0 x1 x2 x3 17 _ rfl _ ?_
  rw [table_16]; refine tableTo_step x0 x1 x2 x3 16 _ rfl _ ?_
  rw [table_15]; refine tableTo_step x0 x1 x2 x3 15 _ rfl _ ?_
  rw [table_14]; refine tableTo_step x0 x1 x2 x3 14 _ rfl _ ?_
  rw [table_13]; refine tableTo_step x0 x1 x2 x3 13 _ rfl _ ?_
  rw [table_12]; refine tableTo_step x0 x1 x2 x3 12 _ rfl _ ?_
  rw [table_11]; refine tableTo_step x0 x1 x2 x3 11 _ rfl _ ?_
  rw [table_10]; refine tableTo_step x0 x1 x2 x3 10 _ rfl _ ?_
  rw [table_9]; refine tableTo_step x0 x1 x2 x3 9 _ rfl _ ?_
  rw [table_8]; refine tableTo_step x0 x1 x2 x3 8 _ rfl _ ?_
  rw [table_7]; refine tableTo_step x0 x1 x2 x3 7 _ rfl _ ?_
  rw [table_6]; refine tableTo_step x0 x1 x2 x3 6 _ rfl _ ?_
  rw [table_5]; refine tableTo_step x0 x1 x2 x3 5 _ rfl _ ?_
  rw [table_4]; refine tableTo_step x0 x1 x2 x3 4 _ rfl _ ?_
  rw [table_3]; refine tableTo_step x0 x1 x2 x3 3 _ rfl _ ?_
  rw [table_2]; refine tableTo_step x0 x1 x2 x3 2 _ rfl _ ?_
  rw [table_1]; refine tableTo_step x0 x1 x2 x3 1 _ rfl _ ?_
  rw [table_0]; refine tableTo_step x0 x1 x2 x3 0 _ rfl _ ?_
  exact tableTo_zero x0 x1 x2 x3 _

end Cert.KernelIdeal.Value

end
-- ==== Proof.Block.lean ====
/- What one grid point leaves in its two output blocks, at an index. -/
module

public import proofs.«01_k».proof.Proof.Words

@[expose] public section

set_option maxRecDepth 200000
set_option maxHeartbeats 4000000

noncomputable section

namespace Cert.KernelIdeal.Value

open Cert.KernelIdeal Cert.KernelIdeal.Gen Idealize.ShloMosaic Idealize.ShloMosaic.TcCoe Idealize.SL.Sem

section Pieces

variable (x0 : FVec Ideal S4x128x5120 .fp8e4m3) (x1 : FVec Ideal S4x128 .f32) (x2 : FVec Ideal S5120x2560 .fp8e4m3)
  (x3 : FVec Ideal S1x2560 .f32)

/-- The block of codes. -/
def codesV : FVec Ideal S4x128x2560 .fp8e4m3 := fun y => codeAt x0 x1 x2 x3 (y 0) (y 1) (y 2)

/-- The block of scales, groups first. -/
def scalesV : FVec Ideal S20x4x128 .f32 := fun y => scaleAt x0 x1 x2 x3 (y 1) (y 2) (y 0)

/-- The stored codes of group `g` are their columns of the block. -/
theorem code_piece (g : Fin 20) (o : ℕ) (ho : o = 128 * g.val)
    (inb : ∀ a, (![0, 0, o] : Fin 3 → Nat) a + S4x128x128.size a ≤ S4x128x2560.size a)
    (P : FVec Ideal S4x128x128 .fp8e4m3) (hP : P = gCodes (yV x0 x1 x2 x3 g)) (x : S4x128x128.Idx) :
    P x = codesV x0 x1 x2 x3 ((Rect.unit (s := S4x128x2560) ![0, 0, o] S4x128x128.size inb).emb x) := by
  subst hP
  obtain ⟨b, s, l, rfl⟩ : ∃ (b : Fin 4) (s l : Fin 128), x = ix3 b s l := ⟨x 0, x 1, x 2, by ext a; fin_cases a <;> rfl⟩
  rw [gCodes_yV]
  have h (a) := ValueKit.rect_emb_unit_val (s := S4x128x2560) _ _ inb (ix3 b s l) a
  unfold codesV
  congr 1
  · exact Fin.ext (((h 0).trans (Nat.zero_add _)).symm)
  · exact Fin.ext (((h 1).trans (Nat.zero_add _)).symm)
  · refine Fin.ext (Eq.symm ((h 2).trans ?_))
    show o + l.val = 128 * g.val + l.val
    omega

/-- A stored row of scales, cut from the turned table, at a lane. -/
theorem row_at (g o : ℕ) (T : FVec Ideal S512x128 .f32) (h1 : S512x128.Slices ![o, 0] S128x128) (h2 : S128x128.Slices ![g, 0] S1x128)
    (hg : g < 128) (l : Fin 128) (ho : o + l.val < 512) :
    shapeCast S1x1x128 (extractStridedSlice S1x128 ![g, 0]
        (transpose S128x128 [1, 0] (extractStridedSlice S128x128 ![o, 0] T h1) transposes_S128x128_p1_0_S128x128) h2) shapeCasts_S1x128_S1x1x128
        (ix3 0 0 l) = T (ix2 ⟨o + l.val, ho⟩ ⟨g, hg⟩) := by
  pointwise

/-- … is its part of the block. -/
theorem row_piece (T : FVec Ideal S512x128 .f32) (hT : TableTo x0 x1 x2 x3 20 T) (g b : ℕ) (hg : g < 20) (hb : b < 4)
    (inb : ∀ a, (![g, b, 0] : Fin 3 → Nat) a + S1x1x128.size a ≤ S20x4x128.size a)
    (h1 : S512x128.Slices ![128 * b, 0] S128x128) (h2 : S128x128.Slices ![g, 0] S1x128)
    (P : FVec Ideal S1x1x128 .f32)
    (hP : P = shapeCast S1x1x128 (extractStridedSlice S1x128 ![g, 0]
        (transpose S128x128 [1, 0] (extractStridedSlice S128x128 ![128 * b, 0] T h1) transposes_S128x128_p1_0_S128x128) h2) shapeCasts_S1x128_S1x1x128)
    (x : S1x1x128.Idx) :
    P x = scalesV x0 x1 x2 x3 ((Rect.unit (s := S20x4x128) ![g, b, 0] S1x1x128.size inb).emb x) := by
  subst hP
  obtain ⟨l, rfl⟩ : ∃ (l : Fin 128), x = ix3 0 0 l := ⟨x 2, by
    ext a; fin_cases a
    · have := (x 0).isLt; change (x 0).val < 1 at this; show (x 0).val = 0; omega
    · have := (x 1).isLt; change (x 1).val < 1 at this; show (x 1).val = 0; omega
    · rfl⟩
  have hl := l.isLt
  rw [row_at g (128 * b) T h1 h2 (by omega) l (by omega), hT _ ⟨g, hg⟩ ⟨g, by omega⟩ rfl hg,
    tRow_yV x0 x1 x2 x3 ⟨g, hg⟩ ⟨b, hb⟩ l _ (by show 128 * b + l.val = b * 128 + l.val; omega)]
  have h (a) := ValueKit.rect_emb_unit_val (s := S20x4x128) _ _ inb (ix3 0 0 l) a
  unfold scalesV scaleAt
  congr 2
  exact Fin.ext (((h 2).trans (Nat.zero_add _)).symm)

end Pieces

variable (c : Dev nD) (i : grid0.Coords) (arg1 : Memref sig .tc .vmem S4x128x5120 .fp8e4m3) (harg1 : arg1.IsWhole)
  (arg2 : Memref sig .tc .vmem S4x128 .f32) (harg2 : arg2.IsWhole)
  (arg3 : Memref sig .tc .vmem S5120x2560 .fp8e4m3) (harg3 : arg3.IsWhole)
  (arg4 : Memref sig .tc .vmem S1x2560 .f32) (harg4 : arg4.IsWhole)
  (arg5 : Memref sig .tc .vmem S4x128x2560 .fp8e4m3) (harg5 : arg5.IsWhole)
  (arg6 : Memref sig .tc .vmem S20x4x128 .f32) (harg6 : arg6.IsWhole)
  (arg7 : Memref sig .tc .vmem S512x128 .f32) (harg7 : arg7.IsWhole)
  (x0 : Vec Ideal S4x128x5120 .fp8e4m3) (x1 : Vec Ideal S4x128 .f32) (x2 : Vec Ideal S5120x2560 .fp8e4m3)
  (x3 : Vec Ideal S1x2560 .f32)

/-- The block of codes a point leaves. -/
theorem out4_eq : out0_A_4 (F := Ideal) c i arg1 harg1 arg2 harg2 arg3 harg3 arg4 harg4 arg5 harg5 arg6 harg6 arg7 harg7 x0 x1 x2 x3
    = codesV x0 x1 x2 x3 := by
  unfold out0_A_4
  rw [View.read_writes_junk_eq_canon]
  funext y
  refine View.canon_apply_of_pieces (codesV x0 x1 x2 x3) _ ?_ y
    (cover0_A_4 (F := Ideal) c i arg1 harg1 arg2 harg2 arg3 harg3 arg4 harg4 arg5 harg5 arg6 harg6 arg7 harg7 x0 x1 x2 x3 y)
  unfold kernelRun0_A
  dsimp only
  simp only [List.forall_mem_cons]
  refine ⟨
    code_piece x0 x1 x2 x3 19 2432 rfl _ _ (codes_19 c arg1 harg1 arg2 harg2 arg3 harg3 arg4 harg4 arg7 x0 x1 x2 x3),
    code_piece x0 x1 x2 x3 18 2304 rfl _ _ (codes_18 c arg1 harg1 arg2 harg2 arg3 harg3 arg4 harg4 arg7 x0 x1 x2 x3),
    code_piece x0 x1 x2 x3 17 2176 rfl _ _ (codes_17 c arg1 harg1 arg2 harg2 arg3 harg3 arg4 harg4 arg7 x0 x1 x2 x3),
    code_piece x0 x1 x2 x3 16 2048 rfl _ _ (codes_16 c arg1 harg1 arg2 harg2 arg3 harg3 arg4 harg4 arg7 x0 x1 x2 x3),
    code_piece x0 x1 x2 x3 15 1920 rfl _ _ (codes_15 c arg1 harg1 arg2 harg2 arg3 harg3 arg4 harg4 arg7 x0 x1 x2 x3),
    code_piece x0 x1 x2 x3 14 1792 rfl _ _ (codes_14 c arg1 harg1 arg2 harg2 arg3 harg3 arg4 harg4 arg7 x0 x1 x2 x3),
    code_piece x0 x1 x2 x3 13 1664 rfl _ _ (codes_13 c arg1 harg1 arg2 harg2 arg3 harg3 arg4 harg4 arg7 x0 x1 x2 x3),
    code_piece x0 x1 x2 x3 12 1536 rfl _ _ (codes_12 c arg1 harg1 arg2 harg2 arg3 harg3 arg4 harg4 arg7 x0 x1 x2 x3),
    code_piece x0 x1 x2 x3 11 1408 rfl _ _ (codes_11 c arg1 harg1 arg2 harg2 arg3 harg3 arg4 harg4 arg7 x0 x1 x2 x3),
    code_piece x0 x1 x2 x3 10 1280 rfl _ _ (codes_10 c arg1 harg1 arg2 harg2 arg3 harg3 arg4 harg4 arg7 x0 x1 x2 x3),
    code_piece x0 x1 x2 x3 9 1152 rfl _ _ (codes_9 c arg1 harg1 arg2 harg2 arg3 harg3 arg4 harg4 arg7 x0 x1 x2 x3),
    code_piece x0 x1 x2 x3 8 1024 rfl _ _ (codes_8 c arg1 harg1 arg2 harg2 arg3 harg3 arg4 harg4 arg7 x0 x1 x2 x3),
    code_piece x0 x1 x2 x3 7 896 rfl _ _ (codes_7 c arg1 harg1 arg2 harg2 arg3 harg3 arg4 harg4 arg7 x0 x1 x2 x3),
    code_piece x0 x1 x2 x3 6 768 rfl _ _ (codes_6 c arg1 harg1 arg2 harg2 arg3 harg3 arg4 harg4 arg7 x0 x1 x2 x3),
    code_piece x0 x1 x2 x3 5 640 rfl _ _ (codes_5 c arg1 harg1 arg2 harg2 arg3 harg3 arg4 harg4 arg7 x0 x1 x2 x3),
    code_piece x0 x1 x2 x3 4 512 rfl _ _ (codes_4 c arg1 harg1 arg2 harg2 arg3 harg3 arg4 harg4 arg7 x0 x1 x2 x3),
    code_piece x0 x1 x2 x3 3 384 rfl _ _ (codes_3 c arg1 harg1 arg2 harg2 arg3 harg3 arg4 harg4 arg7 x0 x1 x2 x3),
    code_piece x0 x1 x2 x3 2 256 rfl _ _ (codes_2 c arg1 harg1 arg2 harg2 arg3 harg3 arg4 harg4 arg7 x0 x1 x2 x3),
    code_piece x0 x1 x2 x3 1 128 rfl _ _ (codes_1 c arg1 harg1 arg2 harg2 arg3 harg3 arg4 harg4 arg7 x0 x1 x2 x3),
    code_piece x0 x1 x2 x3 0 0 rfl _ _ (codes_0 c arg1 harg1 arg2 harg2 arg3 harg3 arg4 harg4 arg7 x0 x1 x2 x3),
    fun p hp => absurd hp List.not_mem_nil⟩

/-- The block of scales a point leaves. -/
theorem out5_eq : out0_A_5 (F := Ideal) c i arg1 harg1 arg2 harg2 arg3 harg3 arg4 harg4 arg5 harg5 arg6 harg6 arg7 harg7 x0 x1 x2 x3
    = scalesV x0 x1 x2 x3 := by
  have hT := table_all c arg1 harg1 arg2 harg2 arg3 harg3 arg4 harg4 arg7 x0 x1 x2 x3
  unfold out0_A_5
  rw [View.read_writes_junk_eq_canon]
  funext y
  refine View.canon_apply_of_pieces (scalesV x0 x1 x2 x3) _ ?_ y
    (cover0_A_5 (F := Ideal) c i arg1 harg1 arg2 harg2 arg3 harg3 arg4 harg4 arg5 harg5 arg6 harg6 arg7 harg7 x0 x1 x2 x3 y)
  unfold kernelRun0_A
  dsimp only
  simp only [List.forall_mem_cons]
  refine ⟨
    fun x => row_piece x0 x1 x2 x3 _ hT 19 3 (by decide) (by decide) _ (by decide) (by decide) _ rfl x,
    fun x => row_piece x0 x1 x2 x3 _ hT 18 3 (by decide) (by decide) _ (by decide) (by decide) _ rfl x,
    fun x => row_piece x0 x1 x2 x3 _ hT 17 3 (by decide) (by decide) _ (by decide) (by decide) _ rfl x,
    fun x => row_piece x0 x1 x2 x3 _ hT 16 3 (by decide) (by decide) _ (by decide) (by decide) _ rfl x,
    fun x => row_piece x0 x1 x2 x3 _ hT 15 3 (by decide) (by decide) _ (by decide) (by decide) _ rfl x,
    fun x => row_piece x0 x1 x2 x3 _ hT 14 3 (by decide) (by decide) _ (by decide) (by decide) _ rfl x,
    fun x => row_piece x0 x1 x2 x3 _ hT 13 3 (by decide) (by decide) _ (by decide) (by decide) _ rfl x,
    fun x => row_piece x0 x1 x2 x3 _ hT 12 3 (by decide) (by decide) _ (by decide) (by decide) _ rfl x,
    fun x => row_piece x0 x1 x2 x3 _ hT 11 3 (by decide) (by decide) _ (by decide) (by decide) _ rfl x,
    fun x => row_piece x0 x1 x2 x3 _ hT 10 3 (by decide) (by decide) _ (by decide) (by decide) _ rfl x,
    fun x => row_piece x0 x1 x2 x3 _ hT 9 3 (by decide) (by decide) _ (by decide) (by decide) _ rfl x,
    fun x => row_piece x0 x1 x2 x3 _ hT 8 3 (by decide) (by decide) _ (by decide) (by decide) _ rfl x,
    fun x => row_piece x0 x1 x2 x3 _ hT 7 3 (by decide) (by decide) _ (by decide) (by decide) _ rfl x,
    fun x => row_piece x0 x1 x2 x3 _ hT 6 3 (by decide) (by decide) _ (by decide) (by decide) _ rfl x,
    fun x => row_piece x0 x1 x2 x3 _ hT 5 3 (by decide) (by decide) _ (by decide) (by decide) _ rfl x,
    fun x => row_piece x0 x1 x2 x3 _ hT 4 3 (by decide) (by decide) _ (by decide) (by decide) _ rfl x,
    fun x => row_piece x0 x1 x2 x3 _ hT 3 3 (by decide) (by decide) _ (by decide) (by decide) _ rfl x,
    fun x => row_piece x0 x1 x2 x3 _ hT 2 3 (by decide) (by decide) _ (by decide) (by decide) _ rfl x,
    fun x => row_piece x0 x1 x2 x3 _ hT 1 3 (by decide) (by decide) _ (by decide) (by decide) _ rfl x,
    fun x => row_piece x0 x1 x2 x3 _ hT 0 3 (by decide) (by decide) _ (by decide) (by decide) _ rfl x,
    fun x => row_piece x0 x1 x2 x3 _ hT 19 2 (by decide) (by decide) _ (by decide) (by decide) _ rfl x,
    fun x => row_piece x0 x1 x2 x3 _ hT 18 2 (by decide) (by decide) _ (by decide) (by decide) _ rfl x,
    fun x => row_piece x0 x1 x2 x3 _ hT 17 2 (by decide) (by decide) _ (by decide) (by decide) _ rfl x,
    fun x => row_piece x0 x1 x2 x3 _ hT 16 2 (by decide) (by decide) _ (by decide) (by decide) _ rfl x,
    fun x => row_piece x0 x1 x2 x3 _ hT 15 2 (by decide) (by decide) _ (by decide) (by decide) _ rfl x,
    fun x => row_piece x0 x1 x2 x3 _ hT 14 2 (by decide) (by decide) _ (by decide) (by decide) _ rfl x,
    fun x => row_piece x0 x1 x2 x3 _ hT 13 2 (by decide) (by decide) _ (by decide) (by decide) _ rfl x,
    fun x => row_piece x0 x1 x2 x3 _ hT 12 2 (by decide) (by decide) _ (by decide) (by decide) _ rfl x,
    fun x => row_piece x0 x1 x2 x3 _ hT 11 2 (by decide) (by decide) _ (by decide) (by decide) _ rfl x,
    fun x => row_piece x0 x1 x2 x3 _ hT 10 2 (by decide) (by decide) _ (by decide) (by decide) _ rfl x,
    fun x => row_piece x0 x1 x2 x3 _ hT 9 2 (by decide) (by decide) _ (by decide) (by decide) _ rfl x,
    fun x => row_piece x0 x1 x2 x3 _ hT 8 2 (by decide) (by decide) _ (by decide) (by decide) _ rfl x,
    fun x => row_piece x0 x1 x2 x3 _ hT 7 2 (by decide) (by decide) _ (by decide) (by decide) _ rfl x,
    fun x => row_piece x0 x1 x2 x3 _ hT 6 2 (by decide) (by decide) _ (by decide) (by decide) _ rfl x,
    fun x => row_piece x0 x1 x2 x3 _ hT 5 2 (by decide) (by decide) _ (by decide) (by decide) _ rfl x,
    fun x => row_piece x0 x1 x2 x3 _ hT 4 2 (by decide) (by decide) _ (by decide) (by decide) _ rfl x,
    fun x => row_piece x0 x1 x2 x3 _ hT 3 2 (by decide) (by decide) _ (by decide) (by decide) _ rfl x,
    fun x => row_piece x0 x1 x2 x3 _ hT 2 2 (by decide) (by decide) _ (by decide) (by decide) _ rfl x,
    fun x => row_piece x0 x1 x2 x3 _ hT 1 2 (by decide) (by decide) _ (by decide) (by decide) _ rfl x,
    fun x => row_piece x0 x1 x2 x3 _ hT 0 2 (by decide) (by decide) _ (by decide) (by decide) _ rfl x,
    fun x => row_piece x0 x1 x2 x3 _ hT 19 1 (by decide) (by decide) _ (by decide) (by decide) _ rfl x,
    fun x => row_piece x0 x1 x2 x3 _ hT 18 1 (by decide) (by decide) _ (by decide) (by decide) _ rfl x,
    fun x => row_piece x0 x1 x2 x3 _ hT 17 1 (by decide) (by decide) _ (by decide) (by decide) _ rfl x,
    fun x => row_piece x0 x1 x2 x3 _ hT 16 1 (by decide) (by decide) _ (by decide) (by decide) _ rfl x,
    fun x => row_piece x0 x1 x2 x3 _ hT 15 1 (by decide) (by decide) _ (by decide) (by decide) _ rfl x,
    fun x => row_piece x0 x1 x2 x3 _ hT 14 1 (by decide) (by decide) _ (by decide) (by decide) _ rfl x,
    fun x => row_piece x0 x1 x2 x3 _ hT 13 1 (by decide) (by decide) _ (by decide) (by decide) _ rfl x,
    fun x => row_piece x0 x1 x2 x3 _ hT 12 1 (by decide) (by decide) _ (by decide) (by decide) _ rfl x,
    fun x => row_piece x0 x1 x2 x3 _ hT 11 1 (by decide) (by decide) _ (by decide) (by decide) _ rfl x,
    fun x => row_piece x0 x1 x2 x3 _ hT 10 1 (by decide) (by decide) _ (by decide) (by decide) _ rfl x,
    fun x => row_piece x0 x1 x2 x3 _ hT 9 1 (by decide) (by decide) _ (by decide) (by decide) _ rfl x,
    fun x => row_piece x0 x1 x2 x3 _ hT 8 1 (by decide) (by decide) _ (by decide) (by decide) _ rfl x,
    fun x => row_piece x0 x1 x2 x3 _ hT 7 1 (by decide) (by decide) _ (by decide) (by decide) _ rfl x,
    fun x => row_piece x0 x1 x2 x3 _ hT 6 1 (by decide) (by decide) _ (by decide) (by decide) _ rfl x,
    fun x => row_piece x0 x1 x2 x3 _ hT 5 1 (by decide) (by decide) _ (by decide) (by decide) _ rfl x,
    fun x => row_piece x0 x1 x2 x3 _ hT 4 1 (by decide) (by decide) _ (by decide) (by decide) _ rfl x,
    fun x => row_piece x0 x1 x2 x3 _ hT 3 1 (by decide) (by decide) _ (by decide) (by decide) _ rfl x,
    fun x => row_piece x0 x1 x2 x3 _ hT 2 1 (by decide) (by decide) _ (by decide) (by decide) _ rfl x,
    fun x => row_piece x0 x1 x2 x3 _ hT 1 1 (by decide) (by decide) _ (by decide) (by decide) _ rfl x,
    fun x => row_piece x0 x1 x2 x3 _ hT 0 1 (by decide) (by decide) _ (by decide) (by decide) _ rfl x,
    fun x => row_piece x0 x1 x2 x3 _ hT 19 0 (by decide) (by decide) _ (by decide) (by decide) _ rfl x,
    fun x => row_piece x0 x1 x2 x3 _ hT 18 0 (by decide) (by decide) _ (by decide) (by decide) _ rfl x,
    fun x => row_piece x0 x1 x2 x3 _ hT 17 0 (by decide) (by decide) _ (by decide) (by decide) _ rfl x,
    fun x => row_piece x0 x1 x2 x3 _ hT 16 0 (by decide) (by decide) _ (by decide) (by decide) _ rfl x,
    fun x => row_piece x0 x1 x2 x3 _ hT 15 0 (by decide) (by decide) _ (by decide) (by decide) _ rfl x,
    fun x => row_piece x0 x1 x2 x3 _ hT 14 0 (by decide) (by decide) _ (by decide) (by decide) _ rfl x,
    fun x => row_piece x0 x1 x2 x3 _ hT 13 0 (by decide) (by decide) _ (by decide) (by decide) _ rfl x,
    fun x => row_piece x0 x1 x2 x3 _ hT 12 0 (by decide) (by decide) _ (by decide) (by decide) _ rfl x,
    fun x => row_piece x0 x1 x2 x3 _ hT 11 0 (by decide) (by decide) _ (by decide) (by decide) _ rfl x,
    fun x => row_piece x0 x1 x2 x3 _ hT 10 0 (by decide) (by decide) _ (by decide) (by decide) _ rfl x,
    fun x => row_piece x0 x1 x2 x3 _ hT 9 0 (by decide) (by decide) _ (by decide) (by decide) _ rfl x,
    fun x => row_piece x0 x1 x2 x3 _ hT 8 0 (by decide) (by decide) _ (by decide) (by decide) _ rfl x,
    fun x => row_piece x0 x1 x2 x3 _ hT 7 0 (by decide) (by decide) _ (by decide) (by decide) _ rfl x,
    fun x => row_piece x0 x1 x2 x3 _ hT 6 0 (by decide) (by decide) _ (by decide) (by decide) _ rfl x,
    fun x => row_piece x0 x1 x2 x3 _ hT 5 0 (by decide) (by decide) _ (by decide) (by decide) _ rfl x,
    fun x => row_piece x0 x1 x2 x3 _ hT 4 0 (by decide) (by decide) _ (by decide) (by decide) _ rfl x,
    fun x => row_piece x0 x1 x2 x3 _ hT 3 0 (by decide) (by decide) _ (by decide) (by decide) _ rfl x,
    fun x => row_piece x0 x1 x2 x3 _ hT 2 0 (by decide) (by decide) _ (by decide) (by decide) _ rfl x,
    fun x => row_piece x0 x1 x2 x3 _ hT 1 0 (by decide) (by decide) _ (by decide) (by decide) _ rfl x,
    fun x => row_piece x0 x1 x2 x3 _ hT 0 0 (by decide) (by decide) _ (by decide) (by decide) _ rfl x,
    fun p hp => absurd hp List.not_mem_nil⟩

end Cert.KernelIdeal.Value

end
-- ==== Proof.Array.lean ====
/- What the kernel's two result arrays hold after the run, as functions of the four argument arrays. -/
module

public import proofs.«01_k».proof.Proof.Block
public import Idealize.ShloMosaic.Lib.Pipeline.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

section Whole

variable (X : FVec Ideal S4x8192x5120 .fp8e4m3) (xs : FVec Ideal S4x8192 .f32) (W : FVec Ideal S5120x2560 .fp8e4m3)
  (ws : FVec Ideal S2560 .f32)

/-- The scaled product at batch `b`, row `s`, column `n`. -/
def pG (b : Fin 4) (s : Fin 8192) (n : Fin 2560) : EReal :=
  (∑ k : Fin 5120, (X (ix3 b s k) : EReal) * W (ix2 k n)) * (xs (ix2 b s) * ws (ix1 n))

/-- Its rectified square. -/
def hG (b : Fin 4) (s : Fin 8192) (n : Fin 2560) : EReal := max (pG X xs W ws b s n) 0 * max (pG X xs W ws b s n) 0

/-- The bound of group `g` of that row. -/
def tG (b : Fin 4) (s : Fin 8192) (g : Fin 20) : EReal :=
  (Finset.univ.fold max ⊥ fun l : Fin 128 => hG X xs W ws b s ⟨128 * g.val + l.val, by omega⟩) * Ideal.ofBits .f32 0x3B124925#32

/-- The code at column `n`. -/
def codeG (b : Fin 4) (s : Fin 8192) (n : Fin 2560) : EReal :=
  min (Ideal.ofBits .f32 0x43E00000#32) (max (Ideal.ofBits .f32 0xC3E00000#32)
    (hG X xs W ws b s n * Scale.kInv (tG X xs W ws b s ⟨n.val / 128, by omega⟩)))

/-- The scale of group `g`. -/
def scaleG (b : Fin 4) (s : Fin 8192) (g : Fin 20) : EReal := Scale.kScale (tG X xs W ws b s g)

variable (x0 : FVec Ideal S4x128x5120 .fp8e4m3) (x1 : FVec Ideal S4x128 .f32) (x2 : FVec Ideal S5120x2560 .fp8e4m3)
  (x3 : FVec Ideal S1x2560 .f32)

/-- A block's codes and scales are the arrays', where its products are. -/
theorem code_of_block (b : Fin 4) (s : Fin 128) (s' : Fin 8192) (h : ∀ n, pAt x0 x1 x2 x3 b s n = pG X xs W ws b s' n) (n : Fin 2560) :
    codeAt x0 x1 x2 x3 b s n = codeG X xs W ws b s' n := by
  unfold codeAt codeG tAt tG hAt hG
  simp only [h]

theorem scale_of_block (b : Fin 4) (s : Fin 128) (s' : Fin 8192) (h : ∀ n, pAt x0 x1 x2 x3 b s n = pG X xs W ws b s' n) (g : Fin 20) :
    scaleAt x0 x1 x2 x3 b s g = scaleG X xs W ws b s' g := by
  unfold scaleAt scaleG tAt tG hAt hG
  simp only [h]

end Whole

variable (m : (ℓ : Loc nD τ sig) → Buf (Elt Ideal) ℓ)

theorem idx : ∀ t : Fin cfg0.N, win0_0.index t = ![0, t.val, 0] ∧ win0_1.index t = ![0, t.val] ∧ win0_2.index t = ![0, 0]
    ∧ win0_3.index t = ![0, 0] ∧ win0_4.index t = ![0, t.val, 0] ∧ win0_5.index t = ![0, 0, t.val] :=
  (by decide +kernel : ∀ t : Fin grid0.N, _)

/-- A block's products are the arrays' at its rows. -/
theorem block_products (c : Dev nD) (t : Fin cfg0.N) (b : Fin 4) (s : Fin 128) (s' : Fin 8192) (hs : s'.val = t.val * 128 + s.val) (n : Fin 2560) :
    pAt (iblk m c 0 t) (iblk m c 1 t) (iblk m c 2 t) (iblk m c 3 t) b s n
      = pG (m ((c : Thread nD τ).loc main_arg0)) (m ((c : Thread nD τ).loc main_arg1)) (m ((c : Thread nD τ).loc main_arg2))
          (m ((c : Thread nD τ).loc main_arg3)) b s' n := by
  have e0 : ∀ k, iblk m c 0 t (ix3 b s k) = m ((c : Thread nD τ).loc main_arg0) (ix3 b s' k) := fun k => by
    blk_ext [iblk, V, idx t, hs]
  have e1 : iblk m c 1 t (ix2 b s) = m ((c : Thread nD τ).loc main_arg1) (ix2 b s') := by
    blk_ext [iblk, V, idx t, hs]
  have e2 : ∀ k, iblk m c 2 t (ix2 k n) = m ((c : Thread nD τ).loc main_arg2) (ix2 k n) := fun k => by
    blk_ext [iblk, V, idx t]
  have e3 : iblk m c 3 t (ix2 0 n) = m ((c : Thread nD τ).loc main_arg3) (ix1 n) := by
    have hv : V m c main_v0 = shapeCast S1x2560 (m ((c : Thread nD τ).loc main_arg3)) shapeCasts_S2560_S1x2560 := by
      entry_read
      try rfl
    have he : ((cfg0.win 3).blk t).view.emb (ix2 0 n) = (ix2 0 n : S1x2560.Idx) := by
      ext a
      fin_cases a <;> blk_simp [idx t] <;> try omega
    show V m c main_v0 (((cfg0.win 3).blk t).view.emb (ix2 0 n)) = _
    rw [hv, he]
    pointwise
  unfold pAt pG
  simp only [e0, e1, e2, e3]

theorem final4 (c : Dev nD) : (dats m 0 c).arrAt 4 (cfgs 0).N
    = fun i : S4x8192x2560.Idx => codeG (m ((c : Thread nD τ).loc main_arg0)) (m ((c : Thread nD τ).loc main_arg1)) (m ((c : Thread nD τ).loc main_arg2))
          (m ((c : Thread nD τ).loc main_arg3)) (i 0) (i 1) (i 2) := by
  refine (dats m 0 c).arrAt_eq_of_covers 4 _ (by decide +kernel) fun t _ y => ?_
  blk_simp
  rw [after0_4]
  unfold outsAt0
  dsimp only
  rw [out4_eq]
  unfold codesV
  have h0 : ((cfg0.win 4).blk t).view.emb y 0 = y 0 := Fin.ext (by blk_simp [idx t]; try omega)
  have h1 : (((cfg0.win 4).blk t).view.emb y 1 : ℕ) = t.val * 128 + (y 1).val := by blk_simp [idx t]
  have h2 : ((cfg0.win 4).blk t).view.emb y 2 = y 2 := Fin.ext (by blk_simp [idx t]; try omega)
  refine (code_of_block _ _ _ _ _ _ _ _ (y 0) (y 1) (((cfg0.win 4).blk t).view.emb y 1) (block_products m c t _ _ _ h1) (y 2)).trans ?_
  rw [← h0, ← h2]

theorem final5 (c : Dev nD) : (dats m 0 c).arrAt 5 (cfgs 0).N
    = fun i : S20x4x8192.Idx => scaleG (m ((c : Thread nD τ).loc main_arg0)) (m ((c : Thread nD τ).loc main_arg1)) (m ((c : Thread nD τ).loc main_arg2))
          (m ((c : Thread nD τ).loc main_arg3)) (i 1) (i 2) (i 0) := by
  refine (dats m 0 c).arrAt_eq_of_covers 5 _ (by decide +kernel) fun t _ y => ?_
  blk_simp
  rw [after0_5]
  unfold outsAt0
  dsimp only
  rw [out5_eq]
  unfold scalesV
  have h1 : ((cfg0.win 5).blk t).view.emb y 1 = y 1 := Fin.ext (by blk_simp [idx t]; try omega)
  have h2 : (((cfg0.win 5).blk t).view.emb y 2 : ℕ) = t.val * 128 + (y 2).val := by blk_simp [idx t]
  have h0 : ((cfg0.win 5).blk t).view.emb y 0 = y 0 := Fin.ext (by blk_simp [idx t]; try omega)
  refine (scale_of_block _ _ _ _ _ _ _ _ (y 1) (y 2) (((cfg0.win 5).blk t).view.emb y 2) (block_products m c t _ _ _ h2) (y 0)).trans ?_
  rw [← h1, ← h0]

/-- After the run: the codes' array, the scales turned back by the host, the arguments as launched. -/
theorem run (ρ : Dev nD → PrngReg) : θ_run defs (onTc (τ := τ) (main (F := Ideal))) ⟨m, fun _ => 0, ρ⟩ fun r => ∀ c : Dev nD,
      r.2.mem ((c : Thread nD τ).loc main_v1_0) = (fun i : S4x8192x2560.Idx => codeG (m ((c : Thread nD τ).loc main_arg0)) (m ((c : Thread nD τ).loc main_arg1)) (m ((c : Thread nD τ).loc main_arg2))
          (m ((c : Thread nD τ).loc main_arg3)) (i 0) (i 1) (i 2))
      ∧ r.2.mem ((c : Thread nD τ).loc main_v2) = (fun i : S4x8192x20.Idx => scaleG (m ((c : Thread nD τ).loc main_arg0)) (m ((c : Thread nD τ).loc main_arg1)) (m ((c : Thread nD τ).loc main_arg2))
          (m ((c : Thread nD τ).loc main_arg3)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, ?_, ?_, ?_, ?_, ?_⟩) (run_main m ρ)
  · exact ((h c).1 4).trans (final4 m c)
  · rw [(h c).2 main_v2 (Pipeline.mem_restRefs_of main_v2 (by decide) (by decide))]
    unfold Pipeline.afterTail₀
    simp only [hostOps1, List.flatten_cons, List.flatten_nil, List.append_nil]
    after_results
    have hA : Pipeline.withArrays (cfgs 0).spec c (V0 m c) (fun w => (dats m 0 c).arrAt w (cfgs 0).N) (Proc.tc.devRef main_v1_1) = _ :=
      (Pipeline.withArrays_arr (cfgs 0).spec (by decide) c (V0 m c) (fun w => (dats m 0 c).arrAt w (cfgs 0).N) 5).trans (final5 m c)
    rw [hA]
    funext i
    obtain ⟨b, q, g, rfl⟩ : ∃ (b : Fin 4) (q : Fin 8192) (g : Fin 20), i = ix3 b q g := ⟨i 0, i 1, i 2, by ext a; fin_cases a <;> rfl⟩
    pointwise
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).2 main_arg3 (Pipeline.mem_restRefs_of main_arg3 (by decide) (by decide))).trans (W_main_arg3 m (dats m) c)

end Cert.KernelIdeal.Value

end
-- ==== Proof.Reference.lean ====
/- What the reference computes, at an index, in the same terms as the kernel's arrays. -/
module

public import proofs.«01_k».proof.Proof.Array
public import proofs.«01_k».proof.Proof.Gen.ReferenceIdeal.Value

@[expose] public section

set_option maxRecDepth 16384

noncomputable section

namespace Cert.ReferenceIdeal.Meaning

open Cert.ReferenceIdeal Cert.ReferenceIdeal.Gen Idealize.ShloMosaic Idealize.ShloMosaic.TcCoe Idealize.SL.Sem
open Cert.KernelIdeal.Value (pG hG tG codeG scaleG)

variable (X : FVec Ideal S4x8192x5120 .fp8e4m3) (xs : FVec Ideal S4x8192 .f32) (W : FVec Ideal S5120x2560 .fp8e4m3)
  (ws : FVec Ideal S2560 .f32)

theorem hG_nonneg (b : Fin 4) (s : Fin 8192) (n : Fin 2560) : 0 ≤ hG X xs W ws b s n :=
  mul_nonneg (le_max_right _ _) (le_max_right _ _)

theorem cast_at (v : FVec Ideal S4x8192x2560 .f32) (b : Fin 4) (s : Fin 8192) (g : Fin 20) (l : Fin 128) :
    shapeCast S4x8192x20x128 v shapeCasts_S4x8192x2560_S4x8192x20x128 (ix4 b s g l) = v (ix3 b s ⟨128 * g.val + l.val, by omega⟩) := by
  have e : (⟨128 * g.val + l.val, by omega⟩ : Fin 2560) = ⟨g.val * 128 + l.val, by omega⟩ := Fin.ext (by show 128 * g.val + l.val = g.val * 128 + l.val; omega)
  rw [e]
  pointwise

theorem product_at (b : Fin 4) (s : Fin 8192) (n : Fin 2560) :
    matmul dot_S4x8192x5120_S5120x2560_S4x8192x2560_2_0_01_1_n_n none X W (constant S4x8192x2560 .f32 0x00000000#32) (ix3 b s n)
      = ∑ k : Fin 5120, (X (ix3 b s k) : EReal) * W (ix2 k n) := by
  pointwise

theorem scales_at (b : Fin 4) (s : Fin 8192) (n : Fin 2560) :
    mulf (broadcastTo S4x8192x2560 (shapeCast S4x8192x1 xs shapeCasts_S4x8192_S4x8192x1) broadcasts_S4x8192x1_S4x8192x2560)
      (broadcastTo S4x8192x2560 (shapeCast S1x1x2560 ws shapeCasts_S2560_S1x1x2560) broadcasts_S1x1x2560_S4x8192x2560) (ix3 b s n)
      = xs (ix2 b s) * ws (ix1 n) := by
  pointwise

theorem square_at (p q : FVec Ideal S4x8192x2560 .f32) (b : Fin 4) (s : Fin 8192) (n : Fin 2560) :
    mulf (maximumf (mulf p q) (broadcast S4x8192x2560 (Scalar.ofBits .f32 0x00000000#32)))
        (maximumf (mulf p q) (broadcast S4x8192x2560 (Scalar.ofBits .f32 0x00000000#32))) (ix3 b s n)
      = max (p (ix3 b s n) * q (ix3 b s n)) 0 * max (p (ix3 b s n) * q (ix3 b s n)) 0 := by
  pointwise

theorem rowMax_at (y : FVec Ideal S4x8192x20x128 .f32) (b : Fin 4) (s : Fin 8192) (g : Fin 20) :
    multiReduction .maximumf [3] S4x8192x20 (absf y) 0xFF800000#32 reduces_S4x8192x20x128_S4x8192x20 (.inl rfl) rfl (ix3 b s g)
      = Finset.univ.fold max (Ideal.ofBits .f32 0xFF800000#32) fun l : Fin 128 => absf y (ix4 b s g l) := by
  pointwise

/-- The grouped values. -/
theorem y_at (b : Fin 4) (s : Fin 8192) (g : Fin 20) (l : Fin 128) :
    k0_pay3 (F := Ideal) X W xs ws (ix4 b s g l) = hG X xs W ws b s ⟨128 * g.val + l.val, by omega⟩ := by
  unfold k0_pay3
  rw [cast_at, square_at, product_at, scales_at]
  rfl

theorem zero_eq : Ideal.ofBits .f32 0x00000000#32 = 0 := by simp [Ideal.ofBits_zero_f32]

theorem one_eq : Ideal.ofBits .f32 0x3F800000#32 = 1 :=
  (congrArg (Ideal.ofBits .f32) (by decide +kernel)).trans Cert.Scale.pow_one

/-- The exponent at an index, from the maximum there. -/
theorem exponent_at (a : FVec Ideal S4x8192x20 .f32) (i : S4x8192x20.Idx) :
    select (cmpf .oeq a (broadcast S4x8192x20 (Scalar.ofBits .f32 0x00000000#32))) (broadcast S4x8192x20 (Scalar.ofBits .f32 0x00000000#32))
      (select (andi (cmpf .oge (mulf a (broadcast S4x8192x20 (Scalar.ofBits .f32 0x3B124925#32))) (broadcast S4x8192x20 (Scalar.ofBits .f32 0x00800000#32)))
          (cmpf .olt (mulf a (broadcast S4x8192x20 (Scalar.ofBits .f32 0x3B124925#32))) (broadcast S4x8192x20 (Scalar.ofBits .f32 0x7E800000#32))))
        (addf (floor (divf (log (mulf a (broadcast S4x8192x20 (Scalar.ofBits .f32 0x3B124925#32))))
            (broadcast S4x8192x20 (Scalar.log (Scalar.ofBits .f32 0x40000000#32))))) (broadcast S4x8192x20 (Scalar.ofBits .f32 0x3F800000#32)))
        (broadcast S4x8192x20 (Scalar.ofBits .f32 0x00000000#32))) i
      = Cert.Scale.rExp (a i) (a i * Ideal.ofBits .f32 0x3B124925#32) := by
  unfold Cert.Scale.rExp
  rw [← zero_eq, ← one_eq]
  rfl

/-- A group's maximum. -/
def aG (b : Fin 4) (s : Fin 8192) (g : Fin 20) : EReal := Finset.univ.fold max ⊥ fun l : Fin 128 => hG X xs W ws b s ⟨128 * g.val + l.val, by omega⟩

theorem max_at (b : Fin 4) (s : Fin 8192) (g : Fin 20) :
    multiReduction .maximumf [3] S4x8192x20 (absf (k0_pay3 (F := Ideal) X W xs ws)) 0xFF800000#32 reduces_S4x8192x20x128_S4x8192x20 (.inl rfl) rfl (ix3 b s g)
      = aG X xs W ws b s g := by
  rw [rowMax_at, Cert.Scale.negInf]
  unfold aG
  refine congrArg (fun f => Finset.univ.fold max ⊥ f) (funext fun l => ?_)
  show max (k0_pay3 (F := Ideal) X W xs ws (ix4 b s g l)) (-k0_pay3 (F := Ideal) X W xs ws (ix4 b s g l)) = _
  rw [y_at]
  have := hG_nonneg X xs W ws b s ⟨128 * g.val + l.val, by omega⟩
  exact max_eq_left ((EReal.neg_le_zero.mpr this).trans this)

/-- The exponent of a group. -/
theorem e_at (b : Fin 4) (s : Fin 8192) (g : Fin 20) :
    k0_pay4 (F := Ideal) X W xs ws (ix3 b s g) = Cert.Scale.rExp (aG X xs W ws b s g) (tG X xs W ws b s g) := by
  have h := exponent_at (multiReduction .maximumf [3] S4x8192x20 (absf (k0_pay3 (F := Ideal) X W xs ws)) 0xFF800000#32
    reduces_S4x8192x20x128_S4x8192x20 (.inl rfl) rfl) (ix3 b s g)
  rw [max_at] at h
  exact h

theorem zero_bound (b : Fin 4) (s : Fin 8192) (g : Fin 20) (h : aG X xs W ws b s g = 0) : tG X xs W ws b s g = 0 := by
  show aG X xs W ws b s g * _ = 0
  rw [h, zero_mul]

theorem power_at (v : FVec Ideal S4x8192x20 .f32) (i : S4x8192x20.Idx) : k0_pay2 v i = Ideal.exp2 (v i) := rfl

theorem inverse_power_at (v : FVec Ideal S4x8192x20 .f32) (i : S4x8192x20.Idx) :
    exp2 (subf (broadcast S4x8192x20 (Scalar.ofBits .f32 0x00000000#32)) v) i = Ideal.exp2 (Ideal.ofBits .f32 0x00000000#32 - v i) := rfl

/-- The reference's scales are the kernel's. -/
theorem scales_eq (b : Fin 4) (s : Fin 8192) (g : Fin 20) :
    k0_pay2 (k0_pay4 (F := Ideal) X W xs ws) (ix3 b s g) = scaleG X xs W ws b s g := by
  rw [power_at, e_at]
  exact (Cert.Scale.scale_and_inverse _ _ (zero_bound X xs W ws b s g)).1.symm

theorem inverse_at (b : Fin 4) (s : Fin 8192) (g : Fin 20) :
    k0_pay5 (F := Ideal) X W xs ws (ix3 b s g) = Cert.Scale.kInv (tG X xs W ws b s g) := by
  unfold k0_pay5
  rw [inverse_power_at, e_at, zero_eq]
  exact (Cert.Scale.scale_and_inverse _ _ (zero_bound X xs W ws b s g)).2.symm

/-- A code at a column, from the grouped values and inverses. -/
theorem code_at (y : FVec Ideal S4x8192x20x128 .f32) (e : FVec Ideal S4x8192x20 .f32) (b : Fin 4) (s : Fin 8192) (n : Fin 2560) :
    k0_pay1 (F := Ideal) y e (ix3 b s n)
      = min (Ideal.ofBits .f32 0x43E00000#32) (max (Ideal.ofBits .f32 0xC3E00000#32)
          (y (ix4 b s (⟨n.val / 128, by omega⟩ : Fin 20) (⟨n.val % 128, by omega⟩ : Fin 128)) * e (ix3 b s (⟨n.val / 128, by omega⟩ : Fin 20)))) := by
  pointwise [k0_pay1]

/-- The reference's codes are the kernel's. -/
theorem codes_eq (b : Fin 4) (s : Fin 8192) (n : Fin 2560) :
    k0_pay1 (k0_pay3 (F := Ideal) X W xs ws) (k0_pay5 X W xs ws) (ix3 b s n) = codeG X xs W ws b s n := by
  rw [code_at, y_at, inverse_at]
  have e : (⟨128 * (n.val / 128) + n.val % 128, by omega⟩ : Fin 2560) = n := Fin.ext (by show 128 * (n.val / 128) + n.val % 128 = n.val; omega)
  unfold codeG
  rw [e]

end Cert.ReferenceIdeal.Meaning

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- Both programs end with the same codes and the same scales. -/
theorem algebraic : Cert.algebraic_KernelIdeal_ReferenceIdeal := by
  intro m g m' g' _ hargs
  refine ⟨_, _, Cert.KernelIdeal.Value.run m g, (θ_run Cert.ReferenceIdeal.defs _ _).mono (fun r h c => ?_) (Cert.ReferenceIdeal.Value.run m' g')⟩
  obtain ⟨h0, h1, hk⟩ := h c
  obtain ⟨a0, a1, a2, a3⟩ := hargs c
  refine ⟨h0.trans ?_, h1.trans ?_, hk⟩
  · rw [a0, a1, a2, a3]
    funext i
    obtain ⟨b, s, n, rfl⟩ : ∃ (b : Fin 4) (s : Fin 8192) (n : Fin 2560), i = ix3 b s n := ⟨i 0, i 1, i 2, by ext a; fin_cases a <;> rfl⟩
    exact Cert.ReferenceIdeal.Meaning.codes_eq _ _ _ _ b s n
  · rw [a0, a1, a2, a3]
    funext i
    obtain ⟨b, s, g, rfl⟩ : ∃ (b : Fin 4) (s : Fin 8192) (g : Fin 20), i = ix3 b s g := ⟨i 0, i 1, i 2, by ext a; fin_cases a <;> rfl⟩
    exact Cert.ReferenceIdeal.Meaning.scales_eq _ _ _ _ b s g

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    trivial, algebraic⟩

end Cert.Proof

end
